-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 4096]⟩ ⟨2, ![4096, 4096]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 512]⟩ ⟨2, ![4096, 8192]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x4096 : Shape := ⟨2, ![256, 4096]⟩
abbrev S4096x8192 : Shape := ⟨2, ![4096, 8192]⟩
abbrev S1 : Shape := ⟨1, ![1]⟩
abbrev S4096x512 : Shape := ⟨2, ![4096, 512]⟩
abbrev S2x4096x512 : Shape := ⟨3, ![2, 4096, 512]⟩
abbrev S15x256x512 : Shape := ⟨3, ![15, 256, 512]⟩
abbrev S2 : Shape := ⟨1, ![2]⟩
abbrev S15 : Shape := ⟨1, ![15]⟩
abbrev S16 : Shape := ⟨1, ![16]⟩
abbrev S_ : Shape := ⟨0, ![]⟩
abbrev S1x4096x512 : Shape := ⟨3, ![1, 4096, 512]⟩
abbrev S256x512 : Shape := ⟨2, ![256, 512]⟩
abbrev S1x256x512 : Shape := ⟨3, ![1, 256, 512]⟩

abbrev nBuf : Space → Nat
  | .hbm => 5
  | .vmem => 5
  | .smem => 2
  | _ => 0

abbrev bufTy : (tb : Table) → Fin (tcTables nBuf tb) → BufTy
  | .hbm, ⟨0, _⟩ => ⟨S256x4096, .f32⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S4096x512, .f32⟩
  | .local _ .vmem, ⟨0, _⟩ => ⟨S256x4096, .f32⟩
  | .local _ .vmem, ⟨1, _⟩ => ⟨S4096x512, .f32⟩
  | .local _ .vmem, ⟨2, _⟩ => ⟨S256x4096, .bf16⟩
  | .local _ .vmem, ⟨3, _⟩ => ⟨S2x4096x512, .f32⟩
  | .local _ .vmem, ⟨4, _⟩ => ⟨S15x256x512, .f32⟩
  | .local _ .smem, ⟨0, _⟩ => ⟨S1, .f32⟩
  | .local _ .smem, ⟨1, _⟩ => ⟨S1, .f32⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 1 → Bool
  | ⟨0, _⟩ => false
  | _ => false

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  (ofTc nBuf bufTy 1 37 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg3_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_stg1_0 : Ref sig .tc := ⟨.smem, 0, rfl⟩
abbrev cc0_stg2_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_off1 (d0 : Dev nD) (c1_i32_62 : BitVec 32) : Fin 2 → Nat :=
  let c0_i32_68 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v67 : BitVec 32 := Scalar.addi v2 c1_i32_62
  let c16_i32_63 : BitVec 32 := 16#32
  let v68 : BitVec 32 := Scalar.remsi v67 c16_i32_63
  let c512_i32 : BitVec 32 := 512#32
  let v69 : BitVec 32 := Scalar.muli v68 c512_i32
  ![0, v69.toNat]
def k0_off2 (d0 : Dev nD) (c1_i32_75 : BitVec 32) : Fin 2 → Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v83 : BitVec 32 := Scalar.addi v2 c1_i32_75
  let c1_i32_76 : BitVec 32 := 1#32
  let v84 : BitVec 32 := Scalar.addi v83 c1_i32_76
  let c16_i32_77 : BitVec 32 := 16#32
  let v85 : BitVec 32 := Scalar.remsi v84 c16_i32_77
  let c512_i32_84 : BitVec 32 := 512#32
  let v92 : BitVec 32 := Scalar.muli v85 c512_i32_84
  ![0, v92.toNat]
def k0_off3 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v108 : BitVec 32 := Scalar.muli v2 c256_i32
  let c0_i32_102 : BitVec 32 := 0#32
  ![v108.toNat, 0]
def k0_dev16 (d0 : Dev nD) : Nat :=
  let c0_i32_101 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_73 : BitVec 32 := 1#32
  let v81 : BitVec 32 := Scalar.addi v2 c1_i32_73
  let c16_i32_74 : BitVec 32 := 16#32
  let v82 : BitVec 32 := Scalar.remsi v81 c16_i32_74
  let c1_i32_100 : BitVec 32 := 1#32
  let v109 : BitVec 32 := Scalar.muli v82 c1_i32_100
  let v110 : BitVec 32 := Scalar.addi c0_i32_101 v109
  v110.toNat
def k0_dev17 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_105 : BitVec 32 := 2#32
  let v118 : BitVec 32 := Scalar.addi v2 c2_i32_105
  let c16_i32_106 : BitVec 32 := 16#32
  let v119 : BitVec 32 := Scalar.remsi v118 c16_i32_106
  let c1_i32_133 : BitVec 32 := 1#32
  let v146 : BitVec 32 := Scalar.muli v119 c1_i32_133
  let v147 : BitVec 32 := Scalar.addi c0_i32_134 v146
  v147.toNat
def k0_dev18 (d0 : Dev nD) : Nat :=
  let c0_i32_167 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_138 : BitVec 32 := 3#32
  let v155 : BitVec 32 := Scalar.addi v2 c3_i32_138
  let c16_i32_139 : BitVec 32 := 16#32
  let v156 : BitVec 32 := Scalar.remsi v155 c16_i32_139
  let c1_i32_166 : BitVec 32 := 1#32
  let v183 : BitVec 32 := Scalar.muli v156 c1_i32_166
  let v184 : BitVec 32 := Scalar.addi c0_i32_167 v183
  v184.toNat
def k0_dev19 (d0 : Dev nD) : Nat :=
  let c0_i32_200 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_171 : BitVec 32 := 4#32
  let v192 : BitVec 32 := Scalar.addi v2 c4_i32_171
  let c16_i32_172 : BitVec 32 := 16#32
  let v193 : BitVec 32 := Scalar.remsi v192 c16_i32_172
  let c1_i32_199 : BitVec 32 := 1#32
  let v220 : BitVec 32 := Scalar.muli v193 c1_i32_199
  let v221 : BitVec 32 := Scalar.addi c0_i32_200 v220
  v221.toNat
def k0_dev20 (d0 : Dev nD) : Nat :=
  let c0_i32_233 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_204 : BitVec 32 := 5#32
  let v229 : BitVec 32 := Scalar.addi v2 c5_i32_204
  let c16_i32_205 : BitVec 32 := 16#32
  let v230 : BitVec 32 := Scalar.remsi v229 c16_i32_205
  let c1_i32_232 : BitVec 32 := 1#32
  let v257 : BitVec 32 := Scalar.muli v230 c1_i32_232
  let v258 : BitVec 32 := Scalar.addi c0_i32_233 v257
  v258.toNat
def k0_dev21 (d0 : Dev nD) : Nat :=
  let c0_i32_266 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_237 : BitVec 32 := 6#32
  let v266 : BitVec 32 := Scalar.addi v2 c6_i32_237
  let c16_i32_238 : BitVec 32 := 16#32
  let v267 : BitVec 32 := Scalar.remsi v266 c16_i32_238
  let c1_i32_265 : BitVec 32 := 1#32
  let v294 : BitVec 32 := Scalar.muli v267 c1_i32_265
  let v295 : BitVec 32 := Scalar.addi c0_i32_266 v294
  v295.toNat
def k0_dev22 (d0 : Dev nD) : Nat :=
  let c0_i32_299 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_270 : BitVec 32 := 7#32
  let v303 : BitVec 32 := Scalar.addi v2 c7_i32_270
  let c16_i32_271 : BitVec 32 := 16#32
  let v304 : BitVec 32 := Scalar.remsi v303 c16_i32_271
  let c1_i32_298 : BitVec 32 := 1#32
  let v331 : BitVec 32 := Scalar.muli v304 c1_i32_298
  let v332 : BitVec 32 := Scalar.addi c0_i32_299 v331
  v332.toNat
def k0_dev23 (d0 : Dev nD) : Nat :=
  let c0_i32_332 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_303 : BitVec 32 := 8#32
  let v340 : BitVec 32 := Scalar.addi v2 c8_i32_303
  let c16_i32_304 : BitVec 32 := 16#32
  let v341 : BitVec 32 := Scalar.remsi v340 c16_i32_304
  let c1_i32_331 : BitVec 32 := 1#32
  let v368 : BitVec 32 := Scalar.muli v341 c1_i32_331
  let v369 : BitVec 32 := Scalar.addi c0_i32_332 v368
  v369.toNat
def k0_dev24 (d0 : Dev nD) : Nat :=
  let c0_i32_365 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_336 : BitVec 32 := 9#32
  let v377 : BitVec 32 := Scalar.addi v2 c9_i32_336
  let c16_i32_337 : BitVec 32 := 16#32
  let v378 : BitVec 32 := Scalar.remsi v377 c16_i32_337
  let c1_i32_364 : BitVec 32 := 1#32
  let v405 : BitVec 32 := Scalar.muli v378 c1_i32_364
  let v406 : BitVec 32 := Scalar.addi c0_i32_365 v405
  v406.toNat
def k0_dev25 (d0 : Dev nD) : Nat :=
  let c0_i32_398 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_369 : BitVec 32 := 10#32
  let v414 : BitVec 32 := Scalar.addi v2 c10_i32_369
  let c16_i32_370 : BitVec 32 := 16#32
  let v415 : BitVec 32 := Scalar.remsi v414 c16_i32_370
  let c1_i32_397 : BitVec 32 := 1#32
  let v442 : BitVec 32 := Scalar.muli v415 c1_i32_397
  let v443 : BitVec 32 := Scalar.addi c0_i32_398 v442
  v443.toNat
def k0_dev26 (d0 : Dev nD) : Nat :=
  let c0_i32_431 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_402 : BitVec 32 := 11#32
  let v451 : BitVec 32 := Scalar.addi v2 c11_i32_402
  let c16_i32_403 : BitVec 32 := 16#32
  let v452 : BitVec 32 := Scalar.remsi v451 c16_i32_403
  let c1_i32_430 : BitVec 32 := 1#32
  let v479 : BitVec 32 := Scalar.muli v452 c1_i32_430
  let v480 : BitVec 32 := Scalar.addi c0_i32_431 v479
  v480.toNat
def k0_dev27 (d0 : Dev nD) : Nat :=
  let c0_i32_464 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_435 : BitVec 32 := 12#32
  let v488 : BitVec 32 := Scalar.addi v2 c12_i32_435
  let c16_i32_436 : BitVec 32 := 16#32
  let v489 : BitVec 32 := Scalar.remsi v488 c16_i32_436
  let c1_i32_463 : BitVec 32 := 1#32
  let v516 : BitVec 32 := Scalar.muli v489 c1_i32_463
  let v517 : BitVec 32 := Scalar.addi c0_i32_464 v516
  v517.toNat
def k0_dev28 (d0 : Dev nD) : Nat :=
  let c0_i32_497 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_468 : BitVec 32 := 13#32
  let v525 : BitVec 32 := Scalar.addi v2 c13_i32_468
  let c16_i32_469 : BitVec 32 := 16#32
  let v526 : BitVec 32 := Scalar.remsi v525 c16_i32_469
  let c1_i32_496 : BitVec 32 := 1#32
  let v553 : BitVec 32 := Scalar.muli v526 c1_i32_496
  let v554 : BitVec 32 := Scalar.addi c0_i32_497 v553
  v554.toNat
def k0_dev29 (d0 : Dev nD) : Nat :=
  let c0_i32_530 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_501 : BitVec 32 := 14#32
  let v562 : BitVec 32 := Scalar.addi v2 c14_i32_501
  let c16_i32_502 : BitVec 32 := 16#32
  let v563 : BitVec 32 := Scalar.remsi v562 c16_i32_502
  let c1_i32_529 : BitVec 32 := 1#32
  let v590 : BitVec 32 := Scalar.muli v563 c1_i32_529
  let v591 : BitVec 32 := Scalar.addi c0_i32_530 v590
  v591.toNat
def k0_dev30 (d0 : Dev nD) : Nat :=
  let c0_i32_563 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_534 : BitVec 32 := 15#32
  let v599 : BitVec 32 := Scalar.addi v2 c15_i32_534
  let c16_i32_535 : BitVec 32 := 16#32
  let v600 : BitVec 32 := Scalar.remsi v599 c16_i32_535
  let c1_i32_562 : BitVec 32 := 1#32
  let v627 : BitVec 32 := Scalar.muli v600 c1_i32_562
  let v628 : BitVec 32 := Scalar.addi c0_i32_563 v627
  v628.toNat
def k0_off5 (d0 : Dev nD) : Fin 2 → Nat :=
  let c0_i32_572 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c512_i32_567 : BitVec 32 := 512#32
  let v636 : BitVec 32 := Scalar.muli v2 c512_i32_567
  ![0, v636.toNat]
def k0_off6 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_579 : BitVec 32 := 256#32
  let v649 : BitVec 32 := Scalar.muli v2 c256_i32_579
  let v650 : Index := Scalar.indexCast v649
  let c0_580 : Index := 0#32
  ![v650.toNat, 0]
def k0_off7 (d0 : Dev nD) (c1_i32_671 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v727 : BitVec 32 := Scalar.addi v2 c1_i32_671
  let c16_i32_672 : BitVec 32 := 16#32
  let v728 : BitVec 32 := Scalar.remsi v727 c16_i32_672
  ![v728.toNat]
def k0_off8 (d0 : Dev nD) (c1_i32_671 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v727 : BitVec 32 := Scalar.addi v2 c1_i32_671
  let c16_i32_672 : BitVec 32 := 16#32
  let v728 : BitVec 32 := Scalar.remsi v727 c16_i32_672
  let c256_i32_673 : BitVec 32 := 256#32
  let v729 : BitVec 32 := Scalar.muli v728 c256_i32_673
  let c0_i32_678 : BitVec 32 := 0#32
  ![v729.toNat, 0]
abbrev stage0_0 : Fin 1 → Memref sig .tc .vmem S256x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S4096x8192, .f32⟩
  | .hbm, ⟨5, _⟩ => ⟨S1, .f32⟩
  | .hbm, ⟨6, _⟩ => ⟨S1x1, .f32⟩
  | .hbm, ⟨7, _⟩ => ⟨S4096x8192, .f32⟩
  | .hbm, ⟨8, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Proof.IGeo.lean ====
module

public import proofs.«01_k».proof.Proof.Gen.KernelIdeal.Frame
public import proofs.«01_k».proof.Proof.Gen.KernelIdeal.Skeleton
public import Idealize.ShloMosaic.Lib.Pipeline.Launch
public import Idealize.ShloMosaic.Lib.Pipeline.Kit
public import Idealize.ShloMosaic.Lib.Tactic

/-!
# The exchange's protocol

Sixteen devices. Device `c` holds 256 rows of `x` and all of `w`. It multiplies its rows by the 512 columns of `w` that
belong to device `b`, scales, and sends the chunk to `b`, which keeps it as the rows `256·c …` of its result; one `b`
after another, its own last. The columns come through two slots, the next copy running while the present block is
multiplied. Before anything is sent each device tells the fifteen others that it has entered, and waits for theirs.

This module names the buffers' parts, the semaphores' cells, the values, and the schedule: which duty pays which cell
in which round, with how many units, and what it hands over.
-/

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The ghost state -/

/-- The exchange's rounds; a duty is named by a device. -/
abbrev UB : Type := URounds (GSem nD τ sig) (Fin 16)
/-- The ghost state: the pipeline's and the exchange's. -/
abbrev UU : Type := UR sig nD τ × UB

local notation "𝕄" => MT nD τ sig Unit (Elt F) ℕ UU ℕ

/-- Where the pipeline's part lies, -/
abbrev EP : Emb (UR sig nD τ) (MT nD τ sig Unit (Elt F) ℕ UU ℕ) := embL
/-- and where the exchange's does. -/
abbrev ER : Emb UB (MT nD τ sig Unit (Elt F) ℕ UU ℕ) := embR

variable (m : (ℓ : Loc nD τ sig) → Buf (Elt F) ℓ) (ρ : Dev nD → PrngReg)

/-- The memory at launch. -/
def s₀ : MemSt nD τ sig (Elt F) := ⟨m, fun _ => 0, ρ⟩

/-! ## The devices in a circle -/

/-- A place on the circle is a device. -/
theorem peer_lt (c : Dev nD) (o : ℕ) : (c.val + o) % 16 < nD := Nat.mod_lt _ (by decide)
/-- The device `o` places after `c`. -/
def peer (c : Dev nD) (o : ℕ) : Dev nD := ⟨(c.val + o) % 16, peer_lt c o⟩

/-- The place of the device `o` places on. -/
theorem peer_val (c : Dev nD) (o : ℕ) : (peer c o).val = (c.val + o) % 16 := rfl
/-- There are sixteen devices. -/
theorem dev_lt (c : Dev nD) : c.val < 16 := c.isLt
/-- Sixteen places on is the device itself. -/
theorem peer_16 (c : Dev nD) : peer c 16 = c := Fin.ext (by rw [peer_val]; have := dev_lt c; omega)
/-- One to fifteen places on is another device, -/
theorem peer_ne (c : Dev nD) (r : Fin 15) : peer c (r.val + 1) ≠ c := fun h => by
  have h1 := congrArg Fin.val h; rw [peer_val] at h1; have := dev_lt c; have := r.isLt; omega
/-- a different one for each number of places. -/
theorem peer_inj (c : Dev nD) (r r' : Fin 15) (h : peer c (r.val + 1) = peer c (r'.val + 1)) : r = r' := by
  have h1 := congrArg Fin.val h; rw [peer_val, peer_val] at h1
  have := dev_lt c; have := r.isLt; have := r'.isLt; exact Fin.ext (by omega)
/-- Every other device is a peer. -/
theorem exists_peer (c d : Dev nD) (h : d ≠ c) : ∃ r : Fin 15, peer c (r.val + 1) = d := by
  have h0 : d.val ≠ c.val := fun h' => h (Fin.ext h')
  have := dev_lt c; have := dev_lt d
  refine ⟨⟨(d.val + 15 - c.val) % 16, by omega⟩, Fin.ext ?_⟩
  rw [peer_val]; show (c.val + ((d.val + 15 - c.val) % 16 + 1)) % 16 = d.val; omega
/-- Going `r + 1` places on and `15 - r` more is once round. -/
theorem peer_back (c : Dev nD) (r : Fin 15) : peer (peer c (r.val + 1)) ((14 - r.val) + 1) = c := Fin.ext (by
  rw [peer_val, peer_val]; have := dev_lt c; have := r.isLt; omega)

/-! ## The buffers and their parts -/

/-- The staged rows of `x`. -/
abbrev xM : Memref sig .tc .vmem S256x4096 .f32 := Memref.whole cc0_stg0_0
/-- The array `w`. -/
abbrev wM : Memref sig .tc .hbm S4096x8192 .f32 := Memref.whole main_arg1
/-- The staged first scale. -/
abbrev pM : Memref sig .tc .smem S1 .f32 := Memref.whole cc0_stg1_0
/-- The staged second scale. -/
abbrev qM : Memref sig .tc .smem S1 .f32 := Memref.whole cc0_stg2_0
/-- The staged result. -/
abbrev oM : Memref sig .tc .vmem S4096x512 .f32 := Memref.whole cc0_stg3_0
/-- The buffer of the rounded rows. -/
abbrev bM : Memref sig .tc .vmem S256x4096 .bf16 := Memref.whole cc0_scratch0
/-- The two slots for columns of `w`. -/
abbrev fM : Memref sig .tc .vmem S2x4096x512 .f32 := Memref.whole cc0_scratch1
/-- The fifteen chunks' buffers. -/
abbrev cM : Memref sig .tc .vmem S15x256x512 .f32 := Memref.whole cc0_scratch2

/-- A device's columns lie inside `w`. -/
theorem wCol_inb (b : Dev nD) : ∀ a, (![0, 512 * b.val] : Fin 2 → ℕ) a + S4096x512.size a ≤ S4096x8192.size a :=
  Fin.forall_fin_two.mpr ⟨by show 0 + 4096 ≤ 4096; omega, by show 512 * b.val + 512 ≤ 8192; have := dev_lt b; omega⟩
/-- A slot lies inside the slots' buffer. -/
theorem fSlot_inb (s : Fin 2) : ∀ a, (![s.val, 0, 0] : Fin 3 → ℕ) a + S1x4096x512.size a ≤ S2x4096x512.size a := by
  intro a; fin_cases a
  · show s.val + 1 ≤ 2; omega
  · show 0 + 4096 ≤ 4096; omega
  · show 0 + 512 ≤ 512; omega
/-- A chunk lies inside the chunks' buffer. -/
theorem cSlot_inb (k : Fin 15) : ∀ a, (![k.val, 0, 0] : Fin 3 → ℕ) a + S1x256x512.size a ≤ S15x256x512.size a := by
  intro a; fin_cases a
  · show k.val + 1 ≤ 15; omega
  · show 0 + 256 ≤ 256; omega
  · show 0 + 512 ≤ 512; omega
/-- A band lies inside the result. -/
theorem oRow_inb (p : Dev nD) : ∀ a, (![256 * p.val, 0] : Fin 2 → ℕ) a + S256x512.size a ≤ S4096x512.size a :=
  Fin.forall_fin_two.mpr ⟨by show 256 * p.val + 256 ≤ 4096; have := dev_lt p; omega, by show 0 + 512 ≤ 512; omega⟩

/-- The columns of `w` that belong to device `b`. -/
abbrev wRect (b : Dev nD) : Rect S4096x8192 := Rect.unit (s := S4096x8192) ![0, 512 * b.val] S4096x512.size (wCol_inb b)
/-- Device `b`'s columns of `w`. -/
abbrev wCol (b : Dev nD) : Memref sig .tc .hbm S4096x512 .f32 := wM.slice (wRect b) (fun _ => rfl)
/-- The two slots the columns come through. -/
abbrev fRect (s : Fin 2) : Rect S2x4096x512 := Rect.unit (s := S2x4096x512) ![s.val, 0, 0] S1x4096x512.size (fSlot_inb s)
/-- Slot `s`. -/
abbrev fSlot (s : Fin 2) : Memref sig .tc .vmem S4096x512 .f32 := (fM.slice (fRect s) (fun _ => rfl)).squeeze S4096x512 squeezes_S1x4096x512_S4096x512
/-- The fifteen slots the chunks are sent from. -/
abbrev cRect (k : Fin 15) : Rect S15x256x512 := Rect.unit (s := S15x256x512) ![k.val, 0, 0] S1x256x512.size (cSlot_inb k)
/-- The buffer of chunk `k`. -/
abbrev cSlot (k : Fin 15) : Memref sig .tc .vmem S256x512 .f32 := (cM.slice (cRect k) (fun _ => rfl)).squeeze S256x512 squeezes_S1x256x512_S256x512
/-- The rows of the result that device `p` fills. -/
abbrev oRect (p : Dev nD) : Rect S4096x512 := Rect.unit (s := S4096x512) ![256 * p.val, 0] S256x512.size (oRow_inb p)
/-- The band of the result that device `p` makes. -/
abbrev oRow (p : Dev nD) : Memref sig .tc .vmem S256x512 .f32 := oM.slice (oRect p) (fun _ => rfl)

/-- A slice depends on its offsets only. -/
theorem slice_off {κ sp e} {s : Shape} (M : Memref sig κ sp s e) {off off' : Fin s.rank → ℕ} (size : Fin s.rank → ℕ)
    (h : off = off') (i : ∀ a, off a + size a ≤ s.size a) (i' : ∀ a, off' a + size a ≤ s.size a) :
    M.slice (Rect.unit (s := s) off size i) (fun _ => rfl) = M.slice (Rect.unit (s := s) off' size i') (fun _ => rfl) := by
  subst h; rfl

/-- The elements of a device's columns, -/
theorem wCol_set (b : Dev nD) : (wCol b).view.set = (wRect b).set := View.set_slice_whole main_arg1 (wRect b)
/-- of a slot, -/
theorem fSlot_set (s : Fin 2) : (fSlot s).view.set = (fRect s).set :=
  (View.set_reshape ((View.whole cc0_scratch1).slice (fRect s)) _).trans (View.set_slice_whole cc0_scratch1 (fRect s))
/-- of a chunk's buffer, -/
theorem cSlot_set (k : Fin 15) : (cSlot k).view.set = (cRect k).set :=
  (View.set_reshape ((View.whole cc0_scratch2).slice (cRect k)) _).trans (View.set_slice_whole cc0_scratch2 (cRect k))
/-- and of a band are those of their rectangles. -/
theorem oRow_set (p : Dev nD) : (oRow p).view.set = (oRect p).set := View.set_slice_whole cc0_stg3_0 (oRect p)

/-- The two slots do not meet, and cover their buffer; -/
theorem fSlot_disj (s s' : Fin 2) (h : s ≠ s') : Disjoint (fSlot s).view.set (fSlot s').view.set := by
  rw [fSlot_set, fSlot_set]
  refine Rect.unit_disjoint (0 : Fin 3) ?_
  have h' : s.val ≠ s'.val := fun e => h (Fin.ext e)
  show s.val + 1 ≤ s'.val ∨ s'.val + 1 ≤ s.val; omega
/-- The two slots are their whole buffer. -/
theorem fSlot_cover : Finset.biUnion (β := S2x4096x512.Idx) (Finset.univ : Finset (Fin 2)) (fun s => (fSlot s).view.set) = Finset.univ := by
  refine Finset.eq_univ_of_forall fun i => Finset.mem_biUnion.mpr ⟨⟨(i 0).val, (i 0).isLt⟩, Finset.mem_univ _, ?_⟩
  rw [fSlot_set, Rect.mem_set_unit]
  intro a; fin_cases a
  · show (i 0).val ≤ (i 0).val ∧ (i 0).val < (i 0).val + 1; omega
  · exact ⟨Nat.zero_le _, by show (i 1).val < 0 + 4096; have : (i 1).val < 4096 := (i 1).isLt; omega⟩
  · exact ⟨Nat.zero_le _, by show (i 2).val < 0 + 512; have : (i 2).val < 512 := (i 2).isLt; omega⟩
/-- nor do the fifteen; -/
theorem cSlot_disj (k k' : Fin 15) (h : k ≠ k') : Disjoint (cSlot k).view.set (cSlot k').view.set := by
  rw [cSlot_set, cSlot_set]
  refine Rect.unit_disjoint (0 : Fin 3) ?_
  have h' : k.val ≠ k'.val := fun e => h (Fin.ext e)
  show k.val + 1 ≤ k'.val ∨ k'.val + 1 ≤ k.val; omega
/-- The fifteen chunks are their whole buffer. -/
theorem cSlot_cover : Finset.biUnion (β := S15x256x512.Idx) (Finset.univ : Finset (Fin 15)) (fun s => (cSlot s).view.set) = Finset.univ := by
  refine Finset.eq_univ_of_forall fun i => Finset.mem_biUnion.mpr ⟨⟨(i 0).val, (i 0).isLt⟩, Finset.mem_univ _, ?_⟩
  rw [cSlot_set, Rect.mem_set_unit]
  intro a; fin_cases a
  · show (i 0).val ≤ (i 0).val ∧ (i 0).val < (i 0).val + 1; omega
  · exact ⟨Nat.zero_le _, by show (i 1).val < 0 + 256; have : (i 1).val < 256 := (i 1).isLt; omega⟩
  · exact ⟨Nat.zero_le _, by show (i 2).val < 0 + 512; have : (i 2).val < 512 := (i 2).isLt; omega⟩
/-- nor the result's sixteen bands of rows. -/
theorem oRow_disj (p p' : Dev nD) (h : p ≠ p') : Disjoint (oRow p).view.set (oRow p').view.set := by
  rw [oRow_set, oRow_set]
  refine Rect.unit_disjoint (0 : Fin 2) ?_
  have h' : p.val ≠ p'.val := fun e => h (Fin.ext e)
  show 256 * p.val + 256 ≤ 256 * p'.val ∨ 256 * p'.val + 256 ≤ 256 * p.val; omega
/-- An element is in the band of the device that its row, divided by 256, names. -/
theorem oRow_mem (p : Dev nD) (i : S4096x512.Idx) : Iff (i ∈ (oRow p).view.set) ((i 0).val / 256 = p.val) := by
  rw [oRow_set, Rect.mem_set_unit]
  constructor
  · intro h
    have h0 := h 0
    have h1 : 256 * p.val ≤ (i 0).val ∧ (i 0).val < 256 * p.val + 256 := h0
    omega
  · intro h a
    fin_cases a
    · show 256 * p.val ≤ (i 0).val ∧ (i 0).val < 256 * p.val + 256; omega
    · exact ⟨Nat.zero_le _, by show (i 1).val < 0 + 512; have : (i 1).val < 512 := (i 1).isLt; omega⟩
/-- That quotient is a device. -/
theorem row_dev_lt (i : S4096x512.Idx) : (i 0).val / 256 < nD := by
  have : (i 0).val < 4096 := (i 0).isLt; show _ < 16; omega
/-- The sixteen bands are the whole result. -/
theorem oRow_cover : Finset.biUnion (β := S4096x512.Idx) (Finset.univ : Finset (Dev nD)) (fun p => (oRow p).view.set) = Finset.univ :=
  Finset.eq_univ_of_forall fun i => Finset.mem_biUnion.mpr ⟨⟨(i 0).val / 256, row_dev_lt i⟩, Finset.mem_univ _, (oRow_mem _ i).mpr rfl⟩

end Cert.KernelIdealRun

end
-- ==== Proof.ISem.lean ====
module

public import proofs.«01_k».proof.Proof.IGeo
public import Idealize.ShloMosaic.Lib.Pipeline.Launch
public import Idealize.ShloMosaic.Lib.Pipeline.Kit
public import Idealize.ShloMosaic.Lib.Tactic

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The semaphores -/

/-- The barrier semaphore of the launch's collective. -/
abbrev barS : Sem sig := (SemArray.scalar (sig.barrier 0 rfl) : Sems sig S_).sem

/-- The semaphores of the slots are declared, -/
theorem locS_lt (s : Fin 2) : 4 + s.val < sig.nDmaSem := lt_of_lt_of_le (show 4 + s.val < 6 by omega) (by decide)
/-- so are those of the departures, -/
theorem sndS_lt (k : Fin 15) : 6 + k.val < sig.nDmaSem := lt_of_lt_of_le (show 6 + k.val < 21 by omega) (by decide)
/-- and those of the arrivals. -/
theorem rcvS_lt (p : Dev nD) : 21 + p.val < sig.nDmaSem := lt_of_lt_of_le (show 21 + p.val < 37 by have := dev_lt p; omega) (by decide)
/-- A slot's fetch, a chunk's departure, a chunk's arrival from device `p`. -/
def locS (s : Fin 2) : DmaSem sig := ⟨4 + s.val, locS_lt s⟩
/-- The semaphore of departure `k`. -/
def sndS (k : Fin 15) : DmaSem sig := ⟨6 + k.val, sndS_lt k⟩
/-- The semaphore of the arrival from `p`. -/
def rcvS (p : Dev nD) : DmaSem sig := ⟨21 + p.val, rcvS_lt p⟩

/-- The kernel's scoped semaphores; and all it uses, the barrier's first. -/
abbrev Ks : Type := Fin 2 ⊕ Fin 15 ⊕ Dev nD
/-- The kinds of all of the exchange's semaphores: the barrier's, and the scratch ones. -/
abbrev Kd : Type := Unit ⊕ Ks
/-- The scratch semaphore of a kind. -/
abbrev osem : Ks → SemLoc sig
  | .inl s => .dma (locS s) | .inr (.inl k) => .dma (sndS k) | .inr (.inr p) => .dma (rcvS p)
/-- The semaphore of a kind. -/
abbrev csem : Kd → SemLoc sig
  | .inl _ => .reg barS | .inr k => osem k

/-- Which of them a semaphore is. -/
def kindOf : SemLoc sig → Option Kd
  | .reg _ => some (.inl ())
  | .dma i => if h : i.val < 4 then none else if h1 : i.val < 6 then some (.inr (.inl ⟨i.val - 4, by omega⟩))
      else if h2 : i.val < 21 then some (.inr (.inr (.inl ⟨i.val - 6, by omega⟩)))
      else if h3 : i.val < 37 then some (.inr (.inr (.inr ⟨i.val - 21, by show _ < 16; omega⟩))) else none

/-- The kind of the barrier's semaphore, -/
theorem kindOf_bar : kindOf (.reg barS) = some (.inl ()) := rfl
/-- of a slot's, -/
theorem kindOf_loc (s : Fin 2) : kindOf (.dma (locS s)) = some (.inr (.inl s)) := by revert s; decide
/-- of a departure's, -/
theorem kindOf_snd (k : Fin 15) : kindOf (.dma (sndS k)) = some (.inr (.inr (.inl k))) := by revert k; decide
/-- of an arrival's, -/
theorem kindOf_rcv (p : Dev nD) : kindOf (.dma (rcvS p)) = some (.inr (.inr (.inr p))) := by revert p; decide
/-- and of any: each kind is recovered from its semaphore. -/
theorem kindOf_csem (k : Kd) : kindOf (csem k) = some k := by
  rcases k with _ | s | k | p
  · exact kindOf_bar
  · exact kindOf_loc s
  · exact kindOf_snd k
  · exact kindOf_rcv p

/-- The cell of a kind on a device. -/
abbrev kcell (ck : Dev nD × Kd) : GSem nD τ sig := ((ck.1 : Thread nD τ), csem ck.2)
/-- The barrier's cell on `c`. -/
abbrev barCell (c : Dev nD) : GSem nD τ sig := ((c : Thread nD τ), .reg barS)
/-- Slot `s`'s cell on `c`. -/
abbrev locCell (c : Dev nD) (s : Fin 2) : GSem nD τ sig := ((c : Thread nD τ), .dma (locS s))
/-- Departure `k`'s cell on `c`. -/
abbrev sndCell (c : Dev nD) (k : Fin 15) : GSem nD τ sig := ((c : Thread nD τ), .dma (sndS k))
/-- The cell on `c` of the arrival from `p`. -/
abbrev rcvCell (c : Dev nD) (p : Dev nD) : GSem nD τ sig := ((c : Thread nD τ), .dma (rcvS p))

/-- Different devices or kinds have different cells. -/
theorem kcell_injective : Function.Injective (kcell : Dev nD × Kd → GSem nD τ sig) := by
  rintro ⟨c, k⟩ ⟨c', k'⟩ h
  have h1 : c = c' := congrArg (fun g : GSem nD τ sig => g.1.1) h
  have h2 : csem k = csem k' := congrArg Prod.snd h
  have h3 : some k = some k' := by rw [← kindOf_csem k, ← kindOf_csem k', h2]
  rw [h1, Option.some.inj h3]

/-- A fetch's units, and a chunk's. -/
def NL : ℕ := (fSlot 0).view.dmaCredit
/-- The units of one chunk's transfer. -/
def N : ℕ := (oRow (0 : Fin 16)).view.dmaCredit
/-- A fetch pays some units, -/
theorem NL_pos : 0 < NL := by unfold NL; exact View.dmaCredit_pos _ (by decide)
/-- and so does a chunk. -/
theorem N_pos : 0 < N := by unfold N; exact View.dmaCredit_pos _ (by decide)

/-! ## The values -/

/-- Device `c`'s rows of `x`, the two scales, as staged. -/
def xstg (c : Dev nD) : (cc0_stg0_0 : Ref sig .tc).ty.Contents (Elt F) :=
  (win0_0.blk t0_0).view.read (Elt F) (m ((c : Thread nD τ).loc main_arg0))
/-- The first scale, as staged. -/
def pstg (c : Dev nD) : (cc0_stg1_0 : Ref sig .tc).ty.Contents (Elt F) :=
  (win0_1.blk t0_0).view.read (Elt F) (m ((c : Thread nD τ).loc main_arg2))
/-- The second scale, as staged. -/
def qstg (c : Dev nD) : (cc0_stg2_0 : Ref sig .tc).ty.Contents (Elt F) :=
  (win0_2.blk t0_0).view.read (Elt F) (m ((c : Thread nD τ).loc main_arg3))

/-- A chunk: rows times columns, scaled. -/
def chk (sc : F .f32) (xb : Vec F S256x4096 .bf16) (w : Vec F S4096x512 .f32) : Vec F S256x512 .f32 :=
  mulf (matmul dot_S256x4096_S4096x512_S256x512_1_0_0_1_n_n none xb (truncf .bf16 w bitsLt_bf16_f32 : FVec F S4096x512 .bf16) (constant S256x512 .f32 0x00000000#32 : FVec F S256x512 .f32))
    (broadcast S256x512 sc : FVec F S256x512 .f32)

/-- The scale device `c` reads, -/
def sval (c : Dev nD) : F .f32 :=
  k0_pay1 (pstg m c (Shape.Idx.first (s := S1) (by decide))) (qstg m c (Shape.Idx.first (s := S1) (by decide)))
/-- its rows of `x` in the narrow format, -/
def xbv (c : Dev nD) : (cc0_scratch0 : Ref sig .tc).ty.Contents (Elt F) := k0_pay2 (xstg m c)
/-- its copy of `w`, device `b`'s columns of it, -/
abbrev wbuf (c : Dev nD) : Buf (Elt F) ((c : Thread nD τ).loc main_arg1) := m ((c : Thread nD τ).loc main_arg1)
/-- Device `b`'s columns of `w`, as device `c` holds them. -/
def wblk (c b : Dev nD) : Vec F S4096x512 .f32 := (wCol b).view.read (Elt F) (wbuf m c)
/-- and the chunk `p` makes for `c`. -/
def chunkV (p c : Dev nD) : Vec F S256x512 .f32 := chk (sval m p) (xbv m p) (wblk m p c)

/-- A row's place within its band. -/
theorem loc_row_lt (i : S4096x512.Idx) : (i 0).val % 256 < 256 := Nat.mod_lt _ (by decide)
/-- An index of the result within its band. -/
def inBand (i : S4096x512.Idx) : S256x512.Idx :=
  Fin.cons ⟨(i 0).val % 256, loc_row_lt i⟩ (Fin.cons ⟨(i 1).val, (i 1).isLt⟩ (fun a => a.elim0))
/-- Device `c`'s result: band `p` holds the chunk `p` made for `c`. -/
def outC (c : Dev nD) : (cc0_stg3_0 : Ref sig .tc).ty.Contents (Elt F) :=
  fun i => chunkV m ⟨(i 0).val / 256, row_dev_lt i⟩ c (inBand i)

end Cert.KernelIdealRun

end
-- ==== Proof.ISched.lean ====
module

public import proofs.«01_k».proof.Proof.ISem
public import Idealize.ShloMosaic.Lib.Pipeline.Launch
public import Idealize.ShloMosaic.Lib.Pipeline.Kit
public import Idealize.ShloMosaic.Lib.Tactic

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the duties hand over -/

/-- Half of `w` for each slot's fetches. -/
def wq (s : Fin 2) : PosShare TreeShare := if s = 0 then fullShare.left else fullShare.right

/-- Device `d`'s band for `c`, at any contents. -/
def rowAny (d c : Dev nD) : sProp 𝕄 :=
  iprop(∃ f : Buf (Elt F) ((oRow c).view.loc (d : Thread nD τ)), (oRow c).view.loc (d : Thread nD τ) ↦[(oRow c).view.set]{fullShare} f)
/-- Device `d`'s band for `p`, holding the chunk `p` made. -/
def rowIs (d p : Dev nD) : sProp 𝕄 :=
  iprop(∃ f : Buf (Elt F) ((oRow p).view.loc (d : Thread nD τ)), ⌜(oRow p).view.read (Elt F) f = chunkV m p d⌝
    ∗ ((oRow p).view.loc (d : Thread nD τ) ↦[(oRow p).view.set]{fullShare} f))
/-- The buffer of chunk `k`, at any contents. -/
def commAny (c : Dev nD) (k : Fin 15) : sProp 𝕄 :=
  iprop(∃ f : Buf (Elt F) ((cSlot k).view.loc (c : Thread nD τ)), (cSlot k).view.loc (c : Thread nD τ) ↦[(cSlot k).view.set]{fullShare} f)
/-- Slot `s`, at any contents. -/
def slotAny (c : Dev nD) (s : Fin 2) : sProp 𝕄 :=
  iprop(∃ f : Buf (Elt F) ((fSlot s).view.loc (c : Thread nD τ)), (fSlot s).view.loc (c : Thread nD τ) ↦[(fSlot s).view.set]{fullShare} f)
/-- Slot `s`, holding `b`'s columns of `w`. -/
def slotIs (c : Dev nD) (s : Fin 2) (b : Dev nD) : sProp 𝕄 :=
  iprop(∃ f : Buf (Elt F) ((fSlot s).view.loc (c : Thread nD τ)), ⌜(fSlot s).view.read (Elt F) f = wblk m c b⌝
    ∗ ((fSlot s).view.loc (c : Thread nD τ) ↦[(fSlot s).view.set]{fullShare} f))
/-- The slot's share of `b`'s columns of `w`. -/
def colPts (c : Dev nD) (s : Fin 2) (b : Dev nD) : sProp 𝕄 :=
  iprop((wCol b).view.loc (c : Thread nD τ) ↦[(wCol b).view.set]{wq s} wbuf m c)

omit [FloatOps F] in
/-- A band can be handed over, -/
instance rowAny_storable (d c : Dev nD) : BI.Storable (upEmb : UEmb _ 𝕄) (rowAny (F := F) d c) := by unfold rowAny; infer_instance
/-- with its contents too, -/
instance rowIs_storable (d c : Dev nD) : BI.Storable (upEmb : UEmb _ 𝕄) (rowIs (F := F) m d c) := by unfold rowIs; infer_instance
omit [FloatOps F] in
/-- so can a chunk's buffer, -/
instance commAny_storable (c : Dev nD) (k : Fin 15) : BI.Storable (upEmb : UEmb _ 𝕄) (commAny (F := F) c k) := by unfold commAny; infer_instance
omit [FloatOps F] in
/-- a slot, -/
instance slotIs_storable (c : Dev nD) (s : Fin 2) (b : Dev nD) : BI.Storable (upEmb : UEmb _ 𝕄) (slotIs (F := F) m c s b) := by unfold slotIs; infer_instance
omit [FloatOps F] in
/-- and a share of columns. -/
instance colPts_storable (c : Dev nD) (s : Fin 2) (b : Dev nD) : BI.Storable (upEmb : UEmb _ 𝕄) (colPts (F := F) m c s b) := by unfold colPts; infer_instance

/-- The block slot `s`'s fetch of round `r` brings. -/
def blkOf (c : Dev nD) (s : Fin 2) (r : ℕ) : Dev nD := peer c (2 * r + s.val + 1)

/-- What a duty hands over, by the cell's kind. -/
def pay (c : Dev nD) (r : ℕ) (d : Fin 16) : Option Kd → sProp 𝕄
  | some (.inl _) => rowAny d c
  | some (.inr (.inl s)) => iprop(slotIs m c s (blkOf c s r) ∗ colPts m c s (blkOf c s r))
  | some (.inr (.inr (.inl k))) => commAny c k
  | some (.inr (.inr (.inr p))) => rowIs m c p
  | none => iprop(emp)

/-- The units of a duty, by the cell's kind. -/
def amt : Option Kd → ℕ
  | some (.inl _) => 1
  | some (.inr (.inl _)) => NL
  | some (.inr (.inr (.inl _))) => N
  | some (.inr (.inr (.inr _))) => N
  | none => 1

/-- Every duty pays some unit. -/
theorem amt_pos : ∀ k : Option Kd, 0 < amt k
  | some (.inl _) => Nat.one_pos
  | some (.inr (.inl _)) => NL_pos
  | some (.inr (.inr (.inl _))) => N_pos
  | some (.inr (.inr (.inr _))) => N_pos
  | none => Nat.one_pos

/-- The duties of a round, by the cell's kind. -/
def dut (c : Dev nD) (r : ℕ) : Option Kd → Finset (Fin 16)
  | some (.inl _) => if r = 0 then Finset.univ.erase c else ∅
  | some (.inr (.inl _)) => if r < 8 then {0} else ∅
  | some (.inr (.inr (.inl _))) => if r = 0 then {0} else ∅
  | some (.inr (.inr (.inr p))) => if r = 0 ∧ p ≠ c then {0} else ∅
  | none => ∅

/-- The schedule. Round 0 of a barrier cell: every other device pays one unit with its band. A slot's eight rounds: the
    fetch. Round 0 of a departure cell and of an arrival cell: the transfer. -/
def rd : Rounds.Schedule (GSem nD τ sig) (Fin 16) 𝕄 where
  duties g r := if g.1.2 = .tc then dut g.1.1 r (kindOf g.2) else ∅
  unitless _ := False
  amount g _ _ := amt (kindOf g.2)
  payload g r d := pay m g.1.1 r d (kindOf g.2)
  amount_pos g _ _ _ := amt_pos _

/-- Whatever the schedule hands over can be. -/
instance rd_payload_storable (g : GSem nD τ sig) (r : ℕ) (d : Fin 16) :
    BI.Storable (upEmb : UEmb _ 𝕄) ((rd (F := F) m).payload g r d) := by
  show BI.Storable upEmb (pay m g.1.1 r d (kindOf g.2))
  rcases kindOf g.2 with _ | (_ | (s | (k | p))) <;> unfold pay <;> infer_instance

section Sched
variable (c : Dev nD)

/-- The barrier's duties are the other devices', -/
theorem duties_bar : (rd (F := F) m).duties (barCell c) 0 = Finset.univ.erase c := by
  dsimp only [rd]; rw [if_pos rfl, kindOf_bar]; rfl
/-- a slot has one in each of eight rounds, -/
theorem duties_loc (s : Fin 2) {r : ℕ} (hr : r < 8) : (rd (F := F) m).duties (locCell c s) r = {0} := by
  dsimp only [rd]; rw [if_pos rfl, kindOf_loc]; exact if_pos hr
/-- a departure has one, -/
theorem duties_snd (k : Fin 15) : (rd (F := F) m).duties (sndCell c k) 0 = {0} := by
  dsimp only [rd]; rw [if_pos rfl, kindOf_snd]; rfl
/-- and so has an arrival from another device. -/
theorem duties_rcv (p : Dev nD) (h : p ≠ c) : (rd (F := F) m).duties (rcvCell c p) 0 = {0} := by
  dsimp only [rd]; rw [if_pos rfl, kindOf_rcv]; exact if_pos ⟨rfl, h⟩
/-- No round from the eighth on has a duty, -/
theorem duties_late (g : GSem nD τ sig) (r : ℕ) (hr : 8 ≤ r) : (rd (F := F) m).duties g r = ∅ := by
  dsimp only [rd]
  by_cases h : g.1.2 = .tc
  · rw [if_pos h]
    rcases kindOf g.2 with _ | (_ | (s | (k | p)))
    · rfl
    · exact if_neg (by omega)
    · exact if_neg (by omega)
    · exact if_neg (by omega)
    · exact if_neg (fun h => by omega)
  · rw [if_neg h]
/-- no later round of the barrier's has one, -/
theorem later_bar : ∀ r, 1 ≤ r → (rd (F := F) m).duties (barCell c) r = ∅ := fun r hr => by
  dsimp only [rd]; rw [if_pos rfl, kindOf_bar]; exact if_neg (by omega)
/-- of a slot's, -/
theorem later_loc (s : Fin 2) : ∀ r, 8 ≤ r → (rd (F := F) m).duties (locCell c s) r = ∅ := fun r hr => duties_late m _ r hr
/-- of a departure's, -/
theorem later_snd (k : Fin 15) : ∀ r, 1 ≤ r → (rd (F := F) m).duties (sndCell c k) r = ∅ := fun r hr => by
  dsimp only [rd]; rw [if_pos rfl, kindOf_snd]; exact if_neg (by omega)
/-- or of an arrival's. -/
theorem later_rcv (p : Dev nD) : ∀ r, 1 ≤ r → (rd (F := F) m).duties (rcvCell c p) r = ∅ := fun r hr => by
  dsimp only [rd]; rw [if_pos rfl, kindOf_rcv]; exact if_neg (fun h => by omega)
/-- Nothing arrives at a device from itself. -/
theorem own_rcv : ∀ r, 0 ≤ r → (rd (F := F) m).duties (rcvCell c c) r = ∅ := fun r hr => by
  dsimp only [rd]; rw [if_pos rfl, kindOf_rcv]; exact if_neg (fun h => h.2 rfl)

/-- An entry pays one unit, -/
theorem amount_bar (r : ℕ) (d : Fin 16) : (rd (F := F) m).amount (barCell c) r d = 1 := by dsimp only [rd]; rw [kindOf_bar]; rfl
/-- a fetch its bytes, -/
theorem amount_loc (s : Fin 2) (r : ℕ) (d : Fin 16) : (rd (F := F) m).amount (locCell c s) r d = NL := by dsimp only [rd]; rw [kindOf_loc]; rfl
/-- a departure a chunk's, -/
theorem amount_snd (k : Fin 15) (r : ℕ) (d : Fin 16) : (rd (F := F) m).amount (sndCell c k) r d = N := by dsimp only [rd]; rw [kindOf_snd]; rfl
/-- an arrival a chunk's. -/
theorem amount_rcv (p : Dev nD) (r : ℕ) (d : Fin 16) : (rd (F := F) m).amount (rcvCell c p) r d = N := by dsimp only [rd]; rw [kindOf_rcv]; rfl

/-- So the barrier expects fifteen units, -/
theorem expect_bar : (rd (F := F) m).expect (barCell c) 0 = 15 := by
  unfold Schedule.expect Schedule.amountOf
  rw [duties_bar, Finset.sum_congr rfl fun d _ => amount_bar m c 0 d, Finset.sum_const, Finset.card_erase_of_mem (Finset.mem_univ _),
    Finset.card_univ, Fintype.card_fin, smul_eq_mul]
/-- a slot a fetch's, -/
theorem expect_loc (s : Fin 2) {r : ℕ} (hr : r < 8) : (rd (F := F) m).expect (locCell c s) r = NL := by
  unfold Schedule.expect Schedule.amountOf; rw [duties_loc m c s hr, Finset.sum_singleton, amount_loc]
/-- a departure a chunk's, -/
theorem expect_snd (k : Fin 15) : (rd (F := F) m).expect (sndCell c k) 0 = N := by
  unfold Schedule.expect Schedule.amountOf; rw [duties_snd, Finset.sum_singleton, amount_snd]
/-- an arrival a chunk's. -/
theorem expect_rcv (p : Dev nD) (h : p ≠ c) : (rd (F := F) m).expect (rcvCell c p) 0 = N := by
  unfold Schedule.expect Schedule.amountOf; rw [duties_rcv m c p h, Finset.sum_singleton, amount_rcv]

/-- An entry hands over the payer's band, -/
theorem payload_bar (r : ℕ) (d : Fin 16) : (rd (F := F) m).payload (barCell c) r d = rowAny d c := by dsimp only [rd]; rw [kindOf_bar]; rfl
/-- a fetch the filled slot with the share of `w` it read, -/
theorem payload_loc (s : Fin 2) (r : ℕ) (d : Fin 16) :
    (rd (F := F) m).payload (locCell c s) r d = iprop(slotIs m c s (blkOf c s r) ∗ colPts m c s (blkOf c s r)) := by
  dsimp only [rd]; rw [kindOf_loc]; rfl
/-- a departure the chunk's buffer, -/
theorem payload_snd (k : Fin 15) (r : ℕ) (d : Fin 16) : (rd (F := F) m).payload (sndCell c k) r d = commAny c k := by
  dsimp only [rd]; rw [kindOf_snd]; rfl
/-- an arrival the filled band. -/
theorem payload_rcv (p : Dev nD) (r : ℕ) (d : Fin 16) : (rd (F := F) m).payload (rcvCell c p) r d = rowIs m c p := by
  dsimp only [rd]; rw [kindOf_rcv]; rfl

/-- What the whole of a round hands over. -/
theorem rest_bar : bigSep ((rd (F := F) m).duties (barCell c) 0 \ ∅) (fun d => (rd (F := F) m).payload (barCell c) 0 d)
    = bigSep (Finset.univ.erase c) (fun d : Dev nD => rowAny (F := F) d c) := by
  rw [Finset.sdiff_empty, duties_bar]; exact bigSep_congr fun d _ => payload_bar m c 0 d
/-- The same of a slot's round, -/
theorem rest_loc (s : Fin 2) {r : ℕ} (hr : r < 8) :
    bigSep ((rd (F := F) m).duties (locCell c s) r \ ∅) (fun d => (rd (F := F) m).payload (locCell c s) r d)
      = iprop(slotIs m c s (blkOf c s r) ∗ colPts m c s (blkOf c s r)) := by
  rw [Finset.sdiff_empty, duties_loc m c s hr, bigSep_singleton, payload_loc]
/-- of a departure's, -/
theorem rest_snd (k : Fin 15) : bigSep ((rd (F := F) m).duties (sndCell c k) 0 \ ∅) (fun d => (rd (F := F) m).payload (sndCell c k) 0 d)
    = commAny (F := F) c k := by
  rw [Finset.sdiff_empty, duties_snd, bigSep_singleton, payload_snd]
/-- and of an arrival's. -/
theorem rest_rcv (p : Dev nD) (h : p ≠ c) :
    bigSep ((rd (F := F) m).duties (rcvCell c p) 0 \ ∅) (fun d => (rd (F := F) m).payload (rcvCell c p) 0 d) = rowIs m c p := by
  rw [Finset.sdiff_empty, duties_rcv m c p h, bigSep_singleton, payload_rcv]

end Sched

/-! ## What a device owes, and the order of waiting -/

/-- The offsets from `n` on. -/
def above (n : ℕ) : Finset (Fin 15) := Finset.univ.filter fun o => n ≤ o.val
/-- The offsets below `n`. -/
def below (n : ℕ) : Finset (Fin 15) := Finset.univ.filter fun o => o.val < n

/-- Membership in the offsets from `n` on, -/
theorem mem_above {n : ℕ} {o : Fin 15} : Iff (o ∈ above n) (n ≤ o.val) := by unfold above; rw [Finset.mem_filter]; simp
/-- and in those below `n`. -/
theorem mem_below {n : ℕ} {o : Fin 15} : Iff (o ∈ below n) (o.val < n) := by unfold below; rw [Finset.mem_filter]; simp
/-- From nothing on is all of them, -/
theorem above_zero : above 0 = Finset.univ := Finset.eq_univ_of_forall fun o => mem_above.mpr (Nat.zero_le _)
/-- from the last on none. -/
theorem above_end : above 15 = ∅ := Finset.eq_empty_of_forall_notMem fun o h => by have := mem_above.mp h; have := o.isLt; omega
/-- Below nothing is none, -/
theorem below_zero : below 0 = ∅ := Finset.eq_empty_of_forall_notMem fun o h => by have := mem_below.mp h; omega
/-- below the last all. -/
theorem below_end : below 15 = Finset.univ := Finset.eq_univ_of_forall fun o => mem_below.mpr o.isLt
/-- One offset taken off those that remain, -/
theorem above_step (r : Fin 15) : above r.val = insert r (above (r.val + 1)) := by
  ext o; rw [Finset.mem_insert, mem_above, mem_above, Fin.ext_iff]; omega
/-- which is none of the rest. -/
theorem above_new (r : Fin 15) : r ∉ above (r.val + 1) := fun h => by have := mem_above.mp h; omega
/-- One offset added to those done, -/
theorem below_step (r : Fin 15) : below (r.val + 1) = insert r (below r.val) := by
  ext o; rw [Finset.mem_insert, mem_below, mem_below, Fin.ext_iff]; omega
/-- which was none of them. -/
theorem below_new (r : Fin 15) : r ∉ below r.val := fun h => by have := mem_below.mp h; omega

/-- The arrivals device `c` owes from offset `n` on, and the entries. -/
def OR (c : Dev nD) (n : ℕ) : CellTallies nD τ sig Unit := ∑ o ∈ above n, tallyAt (rcvCell (peer c (o.val + 1)) c) () N
/-- The entries device `c` owes from offset `n` on. -/
def OB (c : Dev nD) (n : ℕ) : CellTallies nD τ sig Unit := ∑ o ∈ above n, tallyAt (barCell (peer c (o.val + 1))) () 1
/-- All of it, as at launch. -/
def O₀ (c : Dev nD) : CellTallies nD τ sig Unit := OR c 0 + OB c 0

/-- The next arrival owed, apart from the rest; -/
theorem OR_step (c : Dev nD) (r : Fin 15) : OR c r.val = OR c (r.val + 1) + tallyAt (rcvCell (peer c (r.val + 1)) c) () N := by
  unfold OR; rw [above_step, Finset.sum_insert (above_new r), add_comm]
/-- the next entry; -/
theorem OB_step (c : Dev nD) (r : Fin 15) : OB c r.val = OB c (r.val + 1) + tallyAt (barCell (peer c (r.val + 1))) () 1 := by
  unfold OB; rw [above_step, Finset.sum_insert (above_new r), add_comm]
/-- at the end no arrival is owed, -/
theorem OR_end (c : Dev nD) : OR c 15 = 0 := by unfold OR; rw [above_end, Finset.sum_empty]
/-- nor an entry. -/
theorem OB_end (c : Dev nD) : OB c 15 = 0 := by unfold OB; rw [above_end, Finset.sum_empty]

/-- The places at which a cell may be waited for. -/
def L (g : GSem nD τ sig) : Finset Unit := if g.1.2 = .tc then {()} else ∅
/-- Entries come before arrivals, everything else before both. -/
def lvk : Option Kd → ℕ
  | some (.inl _) => 1
  | some (.inr (.inr (.inr _))) => 2
  | _ => 0
/-- The order of the cells in waiting. -/
def lv (g : GSem nD τ sig) (_ : Unit) : ℕ := lvk (kindOf g.2)

/-- Only the cells of the main thread have one, -/
theorem L_of_ne (g : GSem nD τ sig) (h : g.1.2 ≠ .tc) : L g = ∅ := if_neg h
/-- and these have the one. -/
theorem L_tc (c : Dev nD) (sm : SemLoc sig) : L ((c : Thread nD τ), sm) = {()} := if_pos rfl
/-- The place of entries in the order, -/
theorem lv_bar (c : Dev nD) (u : Unit) : lv (barCell c) u = 1 := by unfold lv; rw [kindOf_bar]; rfl
/-- of fetches, -/
theorem lv_loc (c : Dev nD) (s : Fin 2) (u : Unit) : lv (locCell c s) u = 0 := by unfold lv; rw [kindOf_loc]; rfl
/-- of arrivals. -/
theorem lv_rcv (c p : Dev nD) (u : Unit) : lv (rcvCell c p) u = 2 := by unfold lv; rw [kindOf_rcv]; rfl

/-- A sum of tallies is positive only where one of them is. -/
theorem sum_tally_pos {I : Type} (S : Finset I) (g : I → GSem nD τ sig) (k : ℕ) {g' : GSem nD τ sig} {u : Unit}
    (h : 0 < (∑ o ∈ S, tallyAt (g o) () k : CellTallies nD τ sig Unit) g' u) : ∃ o ∈ S, g' = g o := by
  classical
  rw [Finset.sum_apply, Finsupp.finsetSum_apply] at h
  by_contra hn
  refine absurd h (Nat.not_lt.mpr (Nat.le_of_eq (Finset.sum_eq_zero fun o ho => ?_)))
  rw [tallyAt_apply, if_neg fun h' => hn ⟨o, ho, h'.1⟩]

/-- What is owed of arrivals is owed to arrivals' cells, -/
theorem OR_pos {c : Dev nD} {n : ℕ} {g : GSem nD τ sig} {u : Unit} (h : 0 < OR c n g u) : ∃ b : Dev nD, g = rcvCell b c := by
  obtain ⟨o, _, ho⟩ := sum_tally_pos _ _ _ h; exact ⟨_, ho⟩
/-- what is owed of entries to the barrier's, -/
theorem OB_pos {c : Dev nD} {n : ℕ} {g : GSem nD τ sig} {u : Unit} (h : 0 < OB c n g u) : ∃ b : Dev nD, g = barCell b := by
  obtain ⟨o, _, ho⟩ := sum_tally_pos _ _ _ h; exact ⟨_, ho⟩
/-- and at launch nothing else is owed. -/
theorem O₀_pos {c : Dev nD} {g : GSem nD τ sig} {u : Unit} (h : 0 < O₀ c g u) :
    (∃ b : Dev nD, g = rcvCell b c) ∨ ∃ b : Dev nD, g = barCell b := by
  unfold O₀ at h
  rw [Pi.add_apply, Finsupp.add_apply] at h
  rcases Nat.eq_zero_or_pos (OR c 0 g u) with h0 | h0
  · right; exact OB_pos (by omega : 0 < OB c 0 g u)
  · left; exact OR_pos h0

omit [FloatOps F] in
/-- A wait at level 0 is fine whatever is owed of the protocol's. -/
theorem mayWait_low (c : Dev nD) (q : DmaSem sig) (hq : lvk (kindOf (.dma q)) = 0) (O : CellTallies nD τ sig Unit)
    (hO : ∀ g u, 0 < O g u → (∃ b : Dev nD, g = rcvCell b c) ∨ ∃ b : Dev nD, g = barCell b) :
    (levAts L lv : sProp 𝕄) ⊢ MayWait (c : Thread nD τ) (.dma q) () O :=
  MayOwe.of_cut (L := L) (lev := lv) 0 (fun p hp => by rw [Finset.mem_singleton.mp hp, L_tc]; exact Finset.mem_singleton_self _)
    (fun g u hg => by rcases hO g u hg with ⟨b, rfl⟩ | ⟨b, rfl⟩ <;> exact Finset.mem_singleton_self _)
    (fun p hp => by rw [Finset.mem_singleton.mp hp]; dsimp only [lv]; rw [hq])
    (fun g u hg => by
      rcases hO g u hg with ⟨b, rfl⟩ | ⟨b, rfl⟩
      · rw [lv_rcv]; decide
      · rw [lv_bar]; decide)

omit [FloatOps F] in
/-- Waiting for the entries while arrivals are owed; -/
theorem mayWait_bar (c : Dev nD) (n : ℕ) : (levAts L lv : sProp 𝕄) ⊢ MayWait (c : Thread nD τ) (.reg barS) () (OR c n) :=
  MayOwe.of_cut (L := L) (lev := lv) 1 (fun p hp => by rw [Finset.mem_singleton.mp hp, L_tc]; exact Finset.mem_singleton_self _)
    (fun g u hg => by obtain ⟨b, rfl⟩ := OR_pos hg; exact Finset.mem_singleton_self _)
    (fun p hp => by rw [Finset.mem_singleton.mp hp]; exact Nat.le_of_eq (lv_bar c ()))
    (fun g u hg => by obtain ⟨b, rfl⟩ := OR_pos hg; rw [lv_rcv]; decide)
omit [FloatOps F] in
/-- for a fetch. -/
theorem mayWait_loc (c : Dev nD) (s : Fin 2) (n : ℕ) : (levAts L lv : sProp 𝕄) ⊢ MayWait (c : Thread nD τ) (.dma (locS s)) () (OR c n) :=
  mayWait_low c _ (by rw [kindOf_loc]; rfl) _ fun g u hg => .inl (OR_pos hg)

end Cert.KernelIdealRun

end
-- ==== Proof.IStep.lean ====
module

public import proofs.«01_k».proof.Proof.ISched
public import Idealize.ShloMosaic.Lib.Pipeline.Launch
public import Idealize.ShloMosaic.Lib.Pipeline.Kit
public import Idealize.ShloMosaic.Lib.Tactic
public import Idealize.ShloMosaic.Lib.Pipeline.Value

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! # The steps of the body -/

/-- No loop needs a bound. -/
abbrev 𝒱₀ : Variants := Variants.none

/-- Running a program on core `c`. -/
abbrev WPc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## What is shared, and what a core holds -/

/-- Every cell's invariant, and that its round 0 is reached. -/
def records (K : Dev nD × Kd → ℕ) : sProp 𝕄 :=
  bigSep Finset.univ fun ck : Dev nD × Kd => iprop(cellInv ER (rd m) (K ck) (kcell ck) ∗ reached ER (kcell ck) 0)
/-- The cells' records are kept for ever. -/
instance records_persistent (K : Dev nD × Kd → ℕ) : BI.Persistent (records (F := F) m K) := by unfold records; infer_instance

/-- One cell's record among them. -/
theorem rec_at (K : Dev nD × Kd → ℕ) (c : Dev nD) (k : Kd) :
    records (F := F) m K ⊢ iprop(cellInv ER (rd m) (K (c, k)) (kcell (c, k)) ∗ reached ER (kcell (c, k)) 0) :=
  BI.bigSep_elim (Φ := fun ck : Dev nD × Kd => iprop(cellInv ER (rd (F := F) m) (K ck) (kcell ck) ∗ reached ER (kcell ck) 0)) (Finset.mem_univ (c, k))

/-- What a core owes, whatever waits it has recorded. -/
def owesE (c : Dev nD) (O : CellTallies nD τ sig Unit) : sProp 𝕄 := iprop(∃ W, owes (c : Thread nD τ) O W)

/-- What every step has at hand. -/
def Base (K : Dev nD × Kd → ℕ) (c : Dev nD) (O : CellTallies nD τ sig Unit) : sProp 𝕄 :=
  iprop(records m K ∗ levAts L lv ∗ owesE c O)

/-- Slot of the `i`-th fetch. -/
def sl (i : ℕ) : Fin 2 := ⟨i % 2, Nat.mod_lt _ (by decide)⟩
/-- The slots alternate. -/
theorem sl_two (i : ℕ) : sl (i + 2) = sl i := Fin.ext (by unfold sl; show (i + 2) % 2 = i % 2; omega)
/-- The block that the `i`-th fetch brings. -/
theorem blkOf_sl (c : Dev nD) (i : ℕ) : blkOf c (sl i) (i / 2) = peer c (i + 1) := by
  unfold blkOf sl; show peer c (2 * (i / 2) + i % 2 + 1) = _; rw [show 2 * (i / 2) + i % 2 = i by omega]

/-- The share of `w` for slot `s`, whole. -/
def WH (c : Dev nD) (s : Fin 2) : sProp 𝕄 := iprop(((c : Thread nD τ).loc main_arg1) ↦{wq s} wbuf m c)
/-- The share of `w` for slot `s`, without device `b`'s columns. -/
def WR (c : Dev nD) (s : Fin 2) (b : Dev nD) : sProp 𝕄 :=
  iprop(((c : Thread nD τ).loc main_arg1) ↦[Finset.univ \ (wCol b).view.set]{wq s} wbuf m c)

/-- A slot at rest before its fetch of round `r`. -/
def idle (c : Dev nD) (s : Fin 2) (r : ℕ) : sProp 𝕄 :=
  iprop(slotAny c s ∗ WH m c s ∗ atPos ER (locCell c s) r ∅ 0 ∗ reached ER (locCell c s) r)
/-- The slot while its fetch of round `r` runs. -/
def flight (c : Dev nD) (s : Fin 2) (r : ℕ) : sProp 𝕄 :=
  iprop(cred (tallyAt (locCell c s) () NL) ∗ WR m c s (blkOf c s r) ∗ atPos ER (locCell c s) r ∅ 0)
/-- The slot after its fetch of round `r`: it holds the block. -/
def ready (c : Dev nD) (s : Fin 2) (r : ℕ) : sProp 𝕄 :=
  iprop(slotIs m c s (blkOf c s r) ∗ WH m c s ∗ atPos ER (locCell c s) (r + 1) ∅ 0 ∗ reached ER (locCell c s) (r + 1))

/-- A slot's contents forgotten. -/
theorem slotIs_any (c : Dev nD) (s : Fin 2) (b : Dev nD) : slotIs (F := F) m c s b ⊢ slotAny c s := by
  unfold slotIs slotAny
  iintro ⟨%f, -, H⟩
  iexists f; iexact H

/-- A chunk slot holding the chunk for `b`. -/
def commIs (c : Dev nD) (k : Fin 15) (b : Dev nD) : sProp 𝕄 :=
  iprop(∃ f : Buf (Elt F) ((cSlot k).view.loc (c : Thread nD τ)), ⌜(cSlot k).view.read (Elt F) f = chunkV m c b⌝
    ∗ ((cSlot k).view.loc (c : Thread nD τ) ↦[(cSlot k).view.set]{fullShare} f))
/-- The rows in the narrow format. -/
def bPts (c : Dev nD) : sProp 𝕄 := iprop(((c : Thread nD τ).loc cc0_scratch0) ↦{fullShare} xbv m c)

/-- The units of a fetch, -/
theorem fSlot_credit (s : Fin 2) : (fSlot s).view.dmaCredit = NL := by unfold NL; rfl
/-- of a landing, -/
theorem oRow_credit (p : Dev nD) : (oRow p).view.dmaCredit = N := by unfold N; rfl
/-- and of a departure. -/
theorem cSlot_credit (k : Fin 15) : (cSlot k).view.dmaCredit = N := by unfold N; rfl

section Steps
variable (K : Dev nD × Kd → ℕ) (c : Dev nD)

/-! ## Entering -/

/-- One device after another is told that `c` has entered, and given its band of `c`'s result. -/
theorem wp_enter (r : Fin 15) {α : Type} {Q : α → sProp 𝕄} {k : PUnit → Prog (TpuEff nD τ sig (Elt F) Λ₀ .tc) α} (O : CellTallies nD τ sig Unit) :
    iprop(records m K ∗ owesE c (O + tallyAt (barCell (peer c (r.val + 1))) () 1)
        ∗ dutyTok ER (barCell (peer c (r.val + 1))) 0 c ∗ rowAny c (peer c (r.val + 1)))
      ⊢ iprop((owesE c O -∗ WPc c (k ⟨⟩) Q)
          -∗ WPc c (.op (.semSignal ((peer c (r.val + 1) : Dev nD) : Thread nD τ) barS (1#32 : BitVec 32).toInt) k) Q) := by
  iintro ⟨#Hrec, HO, Ht, Hrow⟩ Hk
  unfold owesE
  icases HO with ⟨%W, HO⟩
  ihave #Hb := (rec_at m K (peer c (r.val + 1)) (.inl ())) $$ Hrec
  icases Hb with ⟨#HI, #Hr⟩
  iapply (Rounds.wp_signal 𝒱₀ ER (rd m) (c : Thread nD τ) none (dst := ((peer c (r.val + 1) : Dev nD) : Thread nD τ)) (κ := K (peer c (r.val + 1), .inl ()))
      (d := c) (r := 0) (by rw [duties_bar]; exact Finset.mem_erase.mpr ⟨(peer_ne c r).symm, Finset.mem_univ _⟩)
      ((amount_bar m (peer c (r.val + 1)) 0 c).trans (by decide)) () O rfl) $$ [HO Ht Hrow]
  · isplitr; · iexact HI
    isplitl [HO]; · iexact HO
    isplitl [Ht]; · iexact Ht
    isplitl [Hrow]; · rw [payload_bar]; iexact Hrow
    iexact Hr
  iintro HO
  iapply Hk
  iexists W; iexact HO

/-- The wait for the fifteen others: each has handed over its band for `c`. -/
theorem wp_entered {α : Type} {Q : α → sProp 𝕄} {k : PUnit → Prog (TpuEff nD τ sig (Elt F) Λ₀ .tc) α} (n : ℕ) :
    iprop(records m K ∗ levAts L lv ∗ owesE c (OR c n) ∗ cred (tallyAt (barCell c) () 15) ∗ atPos ER (barCell c) 0 ∅ 0)
      ⊢ iprop(((owesE c (OR c n) ∗ bigSep (Finset.univ.erase c) (fun d : Dev nD => rowAny (F := F) d c) ∗ atPos ER (barCell c) 1 ∅ 0)
            -∗ WPc c (k ⟨⟩) Q)
          -∗ WPc c (.op (.semWait barS (15#32 : BitVec 32).toInt) k) Q) := by
  iintro ⟨#Hrec, #Hlev, HO, Hc, Hat⟩ Hk
  unfold owesE
  icases HO with ⟨%W, HO⟩
  ihave #Hb := (rec_at m K c (.inl ())) $$ Hrec
  icases Hb with ⟨#HI, -⟩
  iapply (Rounds.wp_wait_rest_token 𝒱₀ ER (rd m) (c : Thread nD τ) none (κ := K (c, .inl ()))
      (wpE_semWait_eq 𝒱₀ (c : Thread nD τ) none Set.univ) (Set.mem_univ _) () (O := OR c n) (W := W) (R := 0) (m := 0) (T := ∅)
      (by rw [expect_bar]; decide)) $$ [Hc HO Hat]
  · isplitr; · iexact HI
    isplitl [Hc]; · iexact Hc
    isplitl [HO]; · iexact HO
    isplitr; · iapply (mayWait_bar c n); iexact Hlev
    iexact Hat
  iintro ⟨HO, Hat, -, Hpay⟩
  ihave Hp := (Entails.of_eq (rest_bar m c)) $$ Hpay
  iapply Hk
  isplitl [HO]; · iexists _; iexact HO
  isplitl [Hp]; · iexact Hp
  iexact Hat

/-! ## A fetch and its arrival -/

/-- The start of a fetch. -/
theorem wp_fetch (s : Fin 2) (r : ℕ) (hr : r < 8) {α : Type} {Q : α → sProp 𝕄} {k : PUnit → Prog (TpuEff nD τ sig (Elt F) Λ₀ .tc) α}
    {hsrc : (wCol (blkOf c s r)).view.WordExact} {hdst : (fSlot s).view.WordExact}
    {hsem : DmaTarget.Typed .hbm (.dma (locS s)) (DmaTarget.here (fSlot s) : DmaTarget nD τ sig .tc .vmem S4096x512 .f32)} :
    iprop(records m K ∗ idle m c s r ∗ dutyTok ER (locCell c s) r 0)
      ⊢ iprop((flight m c s r -∗ WPc c (k ⟨⟩) Q)
          -∗ WPc c (.op (.enqueueDma (wCol (blkOf c s r)) (.here (fSlot s)) (.dma (locS s)) hsrc hdst hsem) k) Q) := by
  unfold idle flight slotAny WH WR
  iintro ⟨#Hrec, ⟨⟨%f, Hs⟩, HW, Hat, #Hr⟩, Ht⟩ Hk
  ihave #Hb := (rec_at m K c (.inr (.inl s))) $$ Hrec
  icases Hb with ⟨#HI, -⟩
  ihave HW' := (pointsTo_split_subset (Finset.subset_univ (wCol (blkOf c s r)).view.set)).1 $$ HW
  icases HW' with ⟨HC, HW⟩
  iapply (Rounds.wp_copy_pointsTo 𝒱₀ ER (rd m) (c : Thread nD τ) none (κ := K (c, .inr (.inl s))) (r := r) (d := 0) (fs := wbuf m c) (fd := f)
      (q := wq s) (by rw [duties_loc m c s hr]; exact Finset.mem_singleton_self _) () NL (show (fSlot s).view.amount (.dma (locS s)) = NL from fSlot_credit s) (amount_loc m c s r 0)
      (by
        rw [payload_loc]; unfold slotIs colPts
        iintro ⟨H1, H2⟩
        isplitl [H1]
        · iexists ((fSlot s).view.write (Elt F) f ((wCol (blkOf c s r)).view.read (Elt F) (wbuf m c)) Finset.univ)
          isplitr; · (ipureintro; exact View.read_write_univ _ _)
          iexact H1
        · iexact H2)) $$ [HC Hs Ht]
  · isplitr; · iexact HI
    isplitl [HC]; · iexact HC
    isplitl [Hs]; · iexact Hs
    isplitl [Ht]; · iexact Ht
    iexact Hr
  iintro Hc
  iapply Hk
  isplitl [Hc]; · iexact Hc
  isplitl [HW]; · iexact HW
  iexact Hat

/-- The wait for a fetch. -/
theorem wp_arrive (s : Fin 2) (r : ℕ) (hr : r < 8) (n : ℕ) {α : Type} {Q : α → sProp 𝕄} {k : PUnit → Prog (TpuEff nD τ sig (Elt F) Λ₀ .tc) α}
    {src : Memref sig .tc .hbm S4096x512 .f32} {hsrc : src.view.WordExact} {hdst : (fSlot s).view.WordExact} :
    iprop(records m K ∗ levAts L lv ∗ owesE c (OR c n) ∗ flight m c s r)
      ⊢ iprop(((owesE c (OR c n) ∗ ready m c s r) -∗ WPc c (k ⟨⟩) Q)
          -∗ WPc c (.op (.waitDma2 (locS s) src (fSlot s) hsrc hdst) k) Q) := by
  unfold flight ready WH WR owesE
  iintro ⟨#Hrec, #Hlev, ⟨%W, HO⟩, Hc, HW, Hat⟩ Hk
  ihave #Hb := (rec_at m K c (.inr (.inl s))) $$ Hrec
  icases Hb with ⟨#HI, -⟩
  iapply (Rounds.wp_wait_rest_token 𝒱₀ ER (rd m) (c : Thread nD τ) none (κ := K (c, .inr (.inl s)))
      (wpE_waitDma2_eq 𝒱₀ (c : Thread nD τ) none Set.univ) (Set.mem_univ _) () (O := OR c n) (W := W) (R := r) (m := 0) (T := ∅)
      (by rw [Nat.zero_add, expect_loc m c s hr]; exact fSlot_credit s)) $$ [Hc HO Hat]
  · isplitr; · iexact HI
    isplitl [Hc]; · rw [fSlot_credit]; iexact Hc
    isplitl [HO]; · iexact HO
    isplitr; · iapply (mayWait_loc c s n); iexact Hlev
    iexact Hat
  iintro ⟨HO, Hat, Hr, Hpay⟩
  ihave Hp := (Entails.of_eq (rest_loc m c s hr)) $$ Hpay
  unfold colPts
  icases Hp with ⟨Hs, HC⟩
  iapply Hk
  isplitl [HO]; · iexists _; iexact HO
  isplitl [Hs]; · iexact Hs
  isplitl [HC HW]
  · iapply (pointsTo_split_subset (Finset.subset_univ (wCol (blkOf c s r)).view.set)).2
    isplitl [HC]; · iexact HC
    iexact HW
  isplitl [Hat]; · iexact Hat
  iexact Hr

/-! ## A chunk sent, and the two waits -/

/-- The chunk for the `r`-th peer goes into the band that peer handed over. -/
theorem wp_chunk (r : Fin 15) {α : Type} {Q : α → sProp 𝕄} {k : PUnit → Prog (TpuEff nD τ sig (Elt F) Λ₀ .tc) α}
    {hsc : (oRow c).view.ref.isScScratch = false}
    {hsrc : (cSlot r).view.WordExact} {hdst : (oRow c).view.WordExact}
    {hsem : DmaTarget.Typed .vmem (.dma (rcvS c)) (.remote ((peer c (r.val + 1) : Dev nD) : Thread nD τ) (oRow c) (.dma (sndS r)) hsc)} :
    iprop(records m K ∗ owesE c (OR c r.val) ∗ commIs m c r (peer c (r.val + 1)) ∗ rowAny (peer c (r.val + 1)) c
        ∗ dutyTok ER (sndCell c r) 0 0 ∗ dutyTok ER (rcvCell (peer c (r.val + 1)) c) 0 0)
      ⊢ iprop(((owesE c (OR c (r.val + 1)) ∗ cred (tallyAt (sndCell c r) () N)) -∗ WPc c (k ⟨⟩) Q)
          -∗ WPc c (.op (.enqueueDma (cSlot r) (.remote ((peer c (r.val + 1) : Dev nD) : Thread nD τ) (oRow c) (.dma (sndS r)) hsc)
              (.dma (rcvS c)) hsrc hdst hsem) k) Q) := by
  unfold owesE commIs rowAny
  iintro ⟨#Hrec, ⟨%W, HO⟩, ⟨%fs, %hfs, Hs⟩, ⟨%fd, Hd⟩, Ht1, Ht2⟩ Hk
  ihave #Hb := (rec_at m K c (.inr (.inr (.inl r)))) $$ Hrec
  icases Hb with ⟨#HI1, #Hr1⟩
  ihave #Hb := (rec_at m K (peer c (r.val + 1)) (.inr (.inr (.inr c)))) $$ Hrec
  icases Hb with ⟨#HI2, #Hr2⟩
  iapply (Rounds.wp_send_pointsTo 𝒱₀ ER (rd m) (c : Thread nD τ) none (κ₁ := K (c, .inr (.inr (.inl r)))) (κ₂ := K (peer c (r.val + 1), .inr (.inr (.inr c))))
      (r₁ := 0) (r₂ := 0) (d₁ := 0) (d₂ := 0) (fs := fs) (fd := fd) (q := fullShare)
      (by rw [duties_snd]; exact Finset.mem_singleton_self _)
      (by rw [duties_rcv m _ c (peer_ne c r).symm]; exact Finset.mem_singleton_self _)
      () () N (show (oRow c).view.amount (.dma (rcvS c)) = N from oRow_credit c) (amount_snd m c r 0 0) (amount_rcv m (peer c (r.val + 1)) c 0 0) (OR c (r.val + 1)) (OR_step c r) (W := W)
      (by rw [payload_snd]; unfold commAny; iintro H; iexists fs; iexact H)
      (by
        rw [payload_rcv]; unfold rowIs; iintro H
        iexists ((oRow c).view.write (Elt F) fd ((cSlot r).view.read (Elt F) fs) Finset.univ)
        isplitr; · (ipureintro; exact (View.read_write_univ _ _).trans hfs)
        iexact H)) $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk
  isplitl [HO]; · iexists W; iexact HO
  iexact Hc

/-- A chunk has left: its slot is the core's again. -/
theorem wp_sent (r : Fin 15) {α : Type} {Q : α → sProp 𝕄} {k : PUnit → Prog (TpuEff nD τ sig (Elt F) Λ₀ .tc) α}
    {src : Memref sig .tc .vmem S256x512 .f32} {hsrc : src.view.WordExact} {hdst : (cSlot r).view.WordExact} :
    iprop(records m K ∗ owesE c 0 ∗ cred (tallyAt (sndCell c r) () N) ∗ atPos ER (sndCell c r) 0 ∅ 0)
      ⊢ iprop(((owesE c 0 ∗ commAny c r ∗ atPos ER (sndCell c r) 1 ∅ 0) -∗ WPc c (k ⟨⟩) Q)
          -∗ WPc c (.op (.waitDma2 (sndS r) src (cSlot r) hsrc hdst) k) Q) := by
  unfold owesE
  iintro ⟨#Hrec, ⟨%W, HO⟩, Hc, Hat⟩ Hk
  ihave #Hb := (rec_at m K c (.inr (.inr (.inl r)))) $$ Hrec
  icases Hb with ⟨#HI, -⟩
  iapply (Rounds.wp_wait_rest_token 𝒱₀ ER (rd m) (c : Thread nD τ) none (κ := K (c, .inr (.inr (.inl r))))
      (wpE_waitDma2_eq 𝒱₀ (c : Thread nD τ) none Set.univ) (Set.mem_univ _) () (O := 0) (W := W) (R := 0) (m := 0) (T := ∅)
      (by rw [Nat.zero_add, expect_snd]; exact cSlot_credit r)) $$ [Hc HO Hat]
  · isplitr; · iexact HI
    isplitl [Hc]; · rw [cSlot_credit]; iexact Hc
    isplitl [HO]; · iexact HO
    isplitr; · rw [MayWait_zero]; iempintro
    iexact Hat
  iintro ⟨HO, Hat, -, Hpay⟩
  ihave Hp := (Entails.of_eq (rest_snd m c r)) $$ Hpay
  iapply Hk
  isplitl [HO]; · iexists _; iexact HO
  isplitl [Hp]; · iexact Hp
  iexact Hat

/-- The chunk of device `p` has arrived. -/
theorem wp_received (p : Dev nD) (hp : p ≠ c) {α : Type} {Q : α → sProp 𝕄} {k : PUnit → Prog (TpuEff nD τ sig (Elt F) Λ₀ .tc) α}
    {src : Memref sig .tc .vmem S256x512 .f32} {hsrc : src.view.WordExact} {hdst : (oRow p).view.WordExact} :
    iprop(records m K ∗ owesE c 0 ∗ cred (tallyAt (rcvCell c p) () N) ∗ atPos ER (rcvCell c p) 0 ∅ 0)
      ⊢ iprop(((owesE c 0 ∗ rowIs m c p ∗ atPos ER (rcvCell c p) 1 ∅ 0) -∗ WPc c (k ⟨⟩) Q)
          -∗ WPc c (.op (.waitDma2 (rcvS p) src (oRow p) hsrc hdst) k) Q) := by
  unfold owesE
  iintro ⟨#Hrec, ⟨%W, HO⟩, Hc, Hat⟩ Hk
  ihave #Hb := (rec_at m K c (.inr (.inr (.inr p)))) $$ Hrec
  icases Hb with ⟨#HI, -⟩
  iapply (Rounds.wp_wait_rest_token 𝒱₀ ER (rd m) (c : Thread nD τ) none (κ := K (c, .inr (.inr (.inr p))))
      (wpE_waitDma2_eq 𝒱₀ (c : Thread nD τ) none Set.univ) (Set.mem_univ _) () (O := 0) (W := W) (R := 0) (m := 0) (T := ∅)
      (by rw [Nat.zero_add, expect_rcv m c p hp]; exact oRow_credit p)) $$ [Hc HO Hat]
  · isplitr; · iexact HI
    isplitl [Hc]; · rw [oRow_credit]; iexact Hc
    isplitl [HO]; · iexact HO
    isplitr; · rw [MayWait_zero]; iempintro
    iexact Hat
  iintro ⟨HO, Hat, -, Hpay⟩
  ihave Hp := (Entails.of_eq (rest_rcv m c p hp)) $$ Hpay
  iapply Hk
  isplitl [HO]; · iexists _; iexact HO
  isplitl [Hp]; · iexact Hp
  iexact Hat

/-! ## The arithmetic between them -/

/-- The whole of the rounded rows. -/
abbrev bRect : Rect S256x4096 := Rect.unit (s := S256x4096) ![0, 0] S256x4096.size inb_S256x4096_S256x4096_0_0
/-- Two offsets of zero, -/
theorem hz2 : (![0, 0] : Fin 2 → ℕ) = fun _ => 0 := funext fun a => by fin_cases a <;> rfl
/-- and one. -/
theorem hz1 : (![0] : Fin 1 → ℕ) = fun _ => 0 := funext fun a => by fin_cases a; rfl

/-- A load of a slot stays in it, -/
theorem fSlot_sub (s : Fin 2) : (fM.access (fRect s)).set ⊆ (fSlot s).view.set :=
  (View.set_reshape ((View.whole cc0_scratch1).slice (fRect s)) _).symm.subset
/-- a store of a chunk in its buffer. -/
theorem cSlot_sub (r : Fin 15) : (cM.access (cRect r)).set ⊆ (cSlot r).view.set :=
  (View.set_reshape ((View.whole cc0_scratch2).slice (cRect r)) _).symm.subset
/-- A load of a slot reads it, -/
theorem fSlot_read (s : Fin 2) (f : (cc0_scratch1 : Ref sig .tc).ty.Contents (Elt F)) :
    (fSlot s).view.read (Elt F) f = shapeCast S4096x512 ((fM.access (fRect s)).read (Elt F) f) shapeCasts_S1x4096x512_S4096x512 := rfl
/-- and one of a chunk's buffer reads that. -/
theorem cSlot_read (r : Fin 15) (f : (cc0_scratch2 : Ref sig .tc).ty.Contents (Elt F)) :
    (cSlot r).view.read (Elt F) f = shapeCast S256x512 ((cM.access (cRect r)).read (Elt F) f) shapeCasts_S1x256x512_S256x512 := rfl

/-- A block of `w` against the rows, into a chunk's slot. -/
theorem wp_make (s : Fin 2) (b : Dev nD) (r : Fin 15) {α : Type} {Q : α → sProp 𝕄} {k : PUnit → Prog (TpuEff nD τ sig (Elt F) Λ₀ .tc) α}
    (P : Vec F S256x4096 .bf16 → Vec F S1x4096x512 .f32 → Vec F S1x256x512 .f32)
    (hP : ∀ x y, P x y = shapeCast S1x256x512 (chk (sval m c) x (shapeCast S4096x512 y shapeCasts_S1x4096x512_S4096x512)) shapeCasts_S256x512_S1x256x512)
    {hl1 : bM.view.LoadsAt bRect.toLoadRect} {hl2 : fM.view.LoadsAt (fRect s).toLoadRect} {hl3 : cM.view.LoadsAt (cRect r).toLoadRect}
    {hx : (cM.access (cRect r)).Stores Finset.univ} {hm} :
    iprop(bPts m c ∗ slotIs m c s b ∗ commAny c r)
      ⊢ iprop(((bPts m c ∗ slotIs m c s b ∗ commIs m c r b) -∗ WPc c (k ⟨⟩) Q)
          -∗ WPc c (.op (.load bM bRect.toLoadRect hl1) fun x => .op (.load fM (fRect s).toLoadRect hl2) fun y =>
              .op (.load cM (cRect r).toLoadRect hl3) fun _ => .op (.store cM (cRect r) (P x y) Finset.univ hx hm) k) Q) := by
  unfold bPts slotIs commAny commIs
  iintro ⟨Hb, ⟨%f, %hf, Hf⟩, ⟨%g, Hg⟩⟩ Hk
  iapply (wp_load 𝒱₀ (c : Thread nD τ) none Set.univ (m := bM) (Finset.subset_univ _)) $$ Hb; iintro Hb
  rw [show bM.view.readAt (Elt F) bRect.toLoadRect (xbv m c) = xbv m c from Memref.readAt_unit_zero (Elt F) cc0_scratch0 hz2 _ _]
  iapply (wp_load_rect 𝒱₀ (c : Thread nD τ) none Set.univ (m := fM) (r := fRect s) (S := (fSlot s).view.set) (fSlot_sub s)) $$ Hf; iintro Hf
  iapply (wp_load_rect 𝒱₀ (c : Thread nD τ) none Set.univ (m := cM) (r := cRect r) (S := (cSlot r).view.set) (cSlot_sub r)) $$ Hg; iintro Hg
  iapply (wp_store 𝒱₀ (c : Thread nD τ) none Set.univ (m := cM) (r := cRect r) (Mk := Finset.univ) (S := (cSlot r).view.set) (cSlot_sub r)) $$ Hg
  iintro Hg
  iapply Hk
  isplitl [Hb]; · iexact Hb
  isplitl [Hf]
  · iexists f; isplitr; · (ipureintro; exact hf)
    iexact Hf
  iexists ((cM.access (cRect r)).write (Elt F) g (P (xbv m c) ((fM.access (fRect s)).read (Elt F) f)) Finset.univ)
  isplitr
  · ipureintro
    rw [cSlot_read, View.read_write_univ, hP, ← fSlot_read, hf]
    exact shapeCast_shapeCast _ _ _
  iexact Hg

/-- The core's own block, into its own band. -/
theorem wp_own (s : Fin 2) {α : Type} {Q : α → sProp 𝕄} {k : PUnit → Prog (TpuEff nD τ sig (Elt F) Λ₀ .tc) α}
    (P : Vec F S256x4096 .bf16 → Vec F S1x4096x512 .f32 → Vec F S256x512 .f32)
    (hP : ∀ x y, P x y = chk (sval m c) x (shapeCast S4096x512 y shapeCasts_S1x4096x512_S4096x512))
    {hl1 : bM.view.LoadsAt bRect.toLoadRect} {hl2 : fM.view.LoadsAt (fRect s).toLoadRect} {hl3 : oM.view.LoadsAt (oRect c).toLoadRect}
    {hx : (oM.access (oRect c)).Stores Finset.univ} {hm} :
    iprop(bPts m c ∗ slotIs m c s c ∗ rowAny c c)
      ⊢ iprop(((bPts m c ∗ slotIs m c s c ∗ rowIs m c c) -∗ WPc c (k ⟨⟩) Q)
          -∗ WPc c (.op (.load bM bRect.toLoadRect hl1) fun x => .op (.load fM (fRect s).toLoadRect hl2) fun y =>
              .op (.load oM (oRect c).toLoadRect hl3) fun _ => .op (.store oM (oRect c) (P x y) Finset.univ hx hm) k) Q) := by
  unfold bPts slotIs rowAny rowIs
  iintro ⟨Hb, ⟨%f, %hf, Hf⟩, ⟨%g, Hg⟩⟩ Hk
  iapply (wp_load 𝒱₀ (c : Thread nD τ) none Set.univ (m := bM) (Finset.subset_univ _)) $$ Hb; iintro Hb
  rw [show bM.view.readAt (Elt F) bRect.toLoadRect (xbv m c) = xbv m c from Memref.readAt_unit_zero (Elt F) cc0_scratch0 hz2 _ _]
  iapply (wp_load_rect 𝒱₀ (c : Thread nD τ) none Set.univ (m := fM) (r := fRect s) (S := (fSlot s).view.set) (fSlot_sub s)) $$ Hf; iintro Hf
  iapply (wp_load_rect 𝒱₀ (c : Thread nD τ) none Set.univ (m := oM) (r := oRect c) (S := (oRow c).view.set) (Finset.Subset.refl _)) $$ Hg; iintro Hg
  iapply (wp_store 𝒱₀ (c : Thread nD τ) none Set.univ (m := oM) (r := oRect c) (Mk := Finset.univ) (S := (oRow c).view.set) (Finset.Subset.refl _)) $$ Hg
  iintro Hg
  iapply Hk
  isplitl [Hb]; · iexact Hb
  isplitl [Hf]
  · iexists f; isplitr; · (ipureintro; exact hf)
    iexact Hf
  iexists ((oM.access (oRect c)).write (Elt F) g (P (xbv m c) ((fM.access (fRect s)).read (Elt F) f)) Finset.univ)
  isplitr
  · ipureintro
    rw [hP, ← fSlot_read, hf]
    exact View.read_write_univ _ _
  iexact Hg

/-- The rows put into the narrow format. -/
theorem wp_narrow {α : Type} {Q : α → sProp 𝕄} {k : PUnit → Prog (TpuEff nD τ sig (Elt F) Λ₀ .tc) α}
    {hl1 : xM.view.LoadsAt bRect.toLoadRect} {hl2 : bM.view.LoadsAt bRect.toLoadRect}
    {hx : (bM.access bRect).Stores Finset.univ} {hm} :
    iprop((((c : Thread nD τ).loc cc0_stg0_0) ↦{fullShare} xstg m c) ∗ (∃ f : Buf (Elt F) ((c : Thread nD τ).loc cc0_scratch0), ((c : Thread nD τ).loc cc0_scratch0) ↦{fullShare} f))
      ⊢ iprop((((((c : Thread nD τ).loc cc0_stg0_0) ↦{fullShare} xstg m c) ∗ bPts m c) -∗ WPc c (k ⟨⟩) Q)
          -∗ WPc c (.op (.load xM bRect.toLoadRect hl1) fun x => .op (.load bM bRect.toLoadRect hl2) fun _ =>
              .op (.store bM bRect (k0_pay2 x) Finset.univ hx hm) k) Q) := by
  unfold bPts
  iintro ⟨Hx, ⟨%g, Hb⟩⟩ Hk
  iapply (wp_load 𝒱₀ (c : Thread nD τ) none Set.univ (m := xM) (Finset.subset_univ _)) $$ Hx; iintro Hx
  rw [show xM.view.readAt (Elt F) bRect.toLoadRect (xstg m c) = xstg m c from Memref.readAt_unit_zero (Elt F) cc0_stg0_0 hz2 _ _]
  iapply (wp_load 𝒱₀ (c : Thread nD τ) none Set.univ (m := bM) (Finset.subset_univ _)) $$ Hb; iintro Hb
  iapply (wp_store 𝒱₀ (c : Thread nD τ) none Set.univ (m := bM) (r := bRect) (Mk := Finset.univ) (Finset.subset_univ _)) $$ Hb; iintro Hb
  rw [show (bM.access bRect : View sig .tc _ _ _).write (Elt F) g (k0_pay2 (xstg m c)) Finset.univ = xbv m c from
    Memref.write_access_unit_zero_univ (Elt F) cc0_scratch0 hz2 _ g _]
  iapply Hk
  isplitl [Hx]; · iexact Hx
  iexact Hb

/-- The whole of a scale's array. -/
abbrev pRect : Rect S1 := Rect.unit (s := S1) ![0] S1.size inb_S1_S1_0

/-- The two scales read. -/
theorem wp_scales {α : Type} {Q : α → sProp 𝕄} {k : Vec F S1 .f32 → Vec F S1 .f32 → Prog (TpuEff nD τ sig (Elt F) Λ₀ .tc) α}
    {hl1 : pM.view.LoadsAt pRect.toLoadRect} {hl2 : qM.view.LoadsAt pRect.toLoadRect} :
    iprop((((c : Thread nD τ).loc cc0_stg1_0) ↦{fullShare} pstg m c) ∗ (((c : Thread nD τ).loc cc0_stg2_0) ↦{fullShare} qstg m c))
      ⊢ iprop((((((c : Thread nD τ).loc cc0_stg1_0) ↦{fullShare} pstg m c) ∗ (((c : Thread nD τ).loc cc0_stg2_0) ↦{fullShare} qstg m c)) -∗ WPc c (k (pstg m c) (qstg m c)) Q)
          -∗ WPc c (.op (.load pM pRect.toLoadRect hl1) fun f => .op (.load qM pRect.toLoadRect hl2) fun g => k f g) Q) := by
  iintro ⟨Hp, Hq⟩ Hk
  iapply (wp_load 𝒱₀ (c : Thread nD τ) none Set.univ (m := pM) (Finset.subset_univ _)) $$ Hp; iintro Hp
  rw [show pM.view.readAt (Elt F) pRect.toLoadRect (pstg m c) = pstg m c from Memref.readAt_unit_zero (Elt F) cc0_stg1_0 hz1 _ _]
  iapply (wp_load 𝒱₀ (c : Thread nD τ) none Set.univ (m := qM) (Finset.subset_univ _)) $$ Hq; iintro Hq
  rw [show qM.view.readAt (Elt F) pRect.toLoadRect (qstg m c) = qstg m c from Memref.readAt_unit_zero (Elt F) cc0_stg2_0 hz1 _ _]
  iapply Hk
  isplitl [Hp]; · iexact Hp
  iexact Hq

end Steps

end Cert.KernelIdealRun

end
-- ==== Proof.IPhase.lean ====
module

public import proofs.«01_k».proof.Proof.IStep
public import Idealize.ShloMosaic.Lib.Pipeline.Launch
public import Idealize.ShloMosaic.Lib.Pipeline.Kit
public import Idealize.ShloMosaic.Lib.Tactic

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! # The body's phases, each step with what it leaves for the next -/

section Phases
variable (K : Dev nD × Kd → ℕ) (c : Dev nD)

/-- The offsets from `n` on, the first taken out; those below `n + 1`, the last taken out. -/
theorem above_split {n : ℕ} (hn : n < 15) (Φ : Fin 15 → sProp 𝕄) :
    bigSep (above n) Φ = iprop(Φ ⟨n, hn⟩ ∗ bigSep (above (n + 1)) Φ) :=
  (congrArg (bigSep · Φ) (above_step ⟨n, hn⟩)).trans (bigSep_insert (above_new ⟨n, hn⟩))
/-- One more offset done, added to those before. -/
theorem below_join {n : ℕ} (hn : n < 15) (Φ : Fin 15 → sProp 𝕄) :
    bigSep (below (n + 1)) Φ = iprop(Φ ⟨n, hn⟩ ∗ bigSep (below n) Φ) :=
  (congrArg (bigSep · Φ) (below_step ⟨n, hn⟩)).trans (bigSep_insert (below_new ⟨n, hn⟩))

/-! ## Entering -/

/-- Before the `n`-th device is told: the entries and arrivals still owed, the tokens and bands still to hand over. -/
def Ent (n : ℕ) : sProp 𝕄 :=
  iprop(Base m K c (OR c 0 + OB c n)
    ∗ bigSep (above n) (fun o : Fin 15 => iprop(dutyTok ER (barCell (peer c (o.val + 1))) 0 c ∗ rowAny (F := F) c (peer c (o.val + 1)))))

/-- One device told. -/
theorem st_enter (n : ℕ) (hn : n < 15) {Q : PUnit → sProp 𝕄} {R : sProp 𝕄} {k : PUnit → Prog (TpuEff nD τ sig (Elt F) Λ₀ .tc) PUnit}
    {b : Dev nD} (hb : b = peer c (n + 1)) (H : iprop(Ent m K c (n + 1) ∗ R) ⊢ WPc c (k ⟨⟩) Q) :
    iprop(Ent m K c n ∗ R) ⊢ WPc c (.op (.semSignal (b : Thread nD τ) barS (1#32 : BitVec 32).toInt) k) Q := by
  subst hb
  have hO : OR c 0 + OB c n = (OR c 0 + OB c (n + 1)) + tallyAt (barCell (peer c (n + 1))) () 1 := by
    rw [OB_step c ⟨n, hn⟩, add_assoc]
  unfold Ent Base
  rw [above_split hn, hO]
  iintro ⟨⟨⟨#Hrec, #Hlev, HO⟩, ⟨Ht, Hrow⟩, Hrest⟩, HR⟩
  iapply (wp_enter m K c ⟨n, hn⟩ (OR c 0 + OB c (n + 1))) $$ [HO Ht Hrow]
  · isplitr; · iexact Hrec
    isplitl [HO]; · iexact HO
    isplitl [Ht]; · iexact Ht
    iexact Hrow
  iintro HO
  iapply H
  unfold Ent Base
  isplitl [HO Hrest]
  · isplitl [HO]
    · isplitr; · iexact Hrec
      isplitr; · iexact Hlev
      iexact HO
    iexact Hrest
  iexact HR

/-! ## The fifteen chunks -/

/-- What the `o`-th chunk needs. -/
def outTok (o : Fin 15) : sProp 𝕄 :=
  iprop(dutyTok ER (sndCell c o) 0 0 ∗ dutyTok ER (rcvCell (peer c (o.val + 1)) c) 0 0 ∗ commAny (F := F) c o
    ∗ dutyTok ER (locCell c (sl (o.val + 1))) ((o.val + 1) / 2) 0)

/-- Before the `n`-th chunk: its block's fetch runs, the other slot is at rest. -/
def It (n : ℕ) : sProp 𝕄 :=
  iprop(Base m K c (OR c n) ∗ bPts m c ∗ flight m c (sl n) (n / 2) ∗ idle m c (sl (n + 1)) ((n + 1) / 2)
    ∗ bigSep (above n) (fun o : Fin 15 => iprop(rowAny (F := F) (peer c (o.val + 1)) c ∗ outTok c o))
    ∗ bigSep (below n) (fun o : Fin 15 => (cred (tallyAt (sndCell c o) () N) : sProp 𝕄)))

/-- What the staged operands hold. -/
def stg : sProp 𝕄 :=
  iprop((((c : Thread nD τ).loc cc0_stg0_0) ↦{fullShare} xstg m c) ∗ (((c : Thread nD τ).loc cc0_stg1_0) ↦{fullShare} pstg m c)
    ∗ (((c : Thread nD τ).loc cc0_stg2_0) ↦{fullShare} qstg m c))

/-- What the first wait and the first fetch need. -/
def Pre0 : sProp 𝕄 :=
  iprop(cred (tallyAt (barCell c) () 15) ∗ atPos ER (barCell c) 0 ∅ 0 ∗ stg m c
    ∗ (∃ f : Buf (Elt F) ((c : Thread nD τ).loc cc0_scratch0), ((c : Thread nD τ).loc cc0_scratch0) ↦{fullShare} f)
    ∗ idle m c 0 0 ∗ idle m c 1 0 ∗ dutyTok ER (locCell c 0) 0 0 ∗ bigSep Finset.univ (fun o : Fin 15 => outTok (F := F) c o))

/-- All the devices but `c`, by offset. -/
theorem erase_peers (Φ : Dev nD → sProp 𝕄) :
    bigSep (Finset.univ.erase c) Φ = bigSep Finset.univ (fun o : Fin 15 => Φ (peer c (o.val + 1))) := by
  have h : (Finset.univ.erase c : Finset (Dev nD)) = Finset.univ.map ⟨fun o : Fin 15 => peer c (o.val + 1), peer_inj c⟩ := by
    ext p
    rw [Finset.mem_erase, Finset.mem_map]
    constructor
    · rintro ⟨hp, -⟩
      obtain ⟨o, ho⟩ := exists_peer c p hp
      exact ⟨o, Finset.mem_univ _, ho⟩
    · rintro ⟨o, -, rfl⟩
      exact ⟨peer_ne c o, Finset.mem_univ _⟩
  rw [h, bigSep_map]; rfl

/-- From the last entry to the first chunk. -/
theorem st_begin {Q : PUnit → sProp 𝕄} {R : sProp 𝕄}
    {k : Vec F S1 .f32 → Vec F S1 .f32 → PUnit → Prog (TpuEff nD τ sig (Elt F) Λ₀ .tc) PUnit}
    {hl1 : pM.view.LoadsAt pRect.toLoadRect} {hl2 : qM.view.LoadsAt pRect.toLoadRect}
    {src : Memref sig .tc .hbm S4096x512 .f32} {dst : Memref sig .tc .vmem S4096x512 .f32} {sm : DmaSem sig}
    {hsrc : src.view.WordExact} {hdst : dst.view.WordExact}
    {hsem : DmaTarget.Typed .hbm (.dma sm) (DmaTarget.here dst : DmaTarget nD τ sig .tc .vmem S4096x512 .f32)}
    {hl3 : xM.view.LoadsAt bRect.toLoadRect} {hl4 : bM.view.LoadsAt bRect.toLoadRect}
    {hx : (bM.access bRect).Stores Finset.univ} {hm}
    (h1 : src = wCol (peer c 1)) (h2 : dst = fSlot 0) (h3 : sm = locS 0)
    (H : iprop(It m K c 0 ∗ atPos ER (barCell c) 1 ∅ 0 ∗ stg m c ∗ R) ⊢ WPc c (k (pstg m c) (qstg m c) ⟨⟩) Q) :
    iprop(Ent m K c 15 ∗ Pre0 m c ∗ R)
      ⊢ WPc c (.op (.semWait barS (15#32 : BitVec 32).toInt) fun _ =>
          .op (.load pM pRect.toLoadRect hl1) fun f => .op (.load qM pRect.toLoadRect hl2) fun g =>
          .op (.enqueueDma src (.here dst) (.dma sm) hsrc hdst hsem) fun _ =>
          .op (.load xM bRect.toLoadRect hl3) fun x => .op (.load bM bRect.toLoadRect hl4) fun _ =>
            .op (.store bM bRect (k0_pay2 x) Finset.univ hx hm) (k f g)) Q := by
  subst h1; subst h2; subst h3
  unfold Ent Base Pre0 stg
  rw [OB_end, add_zero]
  iintro ⟨⟨⟨#Hrec, #Hlev, HO⟩, -⟩, ⟨Hc, Hat, ⟨Hx, Hp, Hq⟩, Hb, Hi0, Hi1, Ht, Hout⟩, HR⟩
  iapply (wp_entered m K c 0) $$ [HO Hc Hat]
  · isplitr; · iexact Hrec
    isplitr; · iexact Hlev
    isplitl [HO]; · iexact HO
    isplitl [Hc]; · iexact Hc
    iexact Hat
  iintro ⟨HO, Hrows, Hat⟩
  iapply (wp_scales m c) $$ [Hp Hq]
  · isplitl [Hp]; · iexact Hp
    iexact Hq
  iintro ⟨Hp, Hq⟩
  iapply (wp_fetch m K c 0 0 (by decide)) $$ [Hi0 Ht]
  · isplitr; · iexact Hrec
    isplitl [Hi0]; · iexact Hi0
    iexact Ht
  iintro Hfl
  iapply (wp_narrow m c) $$ [Hx Hb]
  · isplitl [Hx]; · iexact Hx
    iexact Hb
  iintro ⟨Hx, Hb⟩
  iapply H
  unfold It Base stg
  rw [above_zero, below_zero, bigSep_sep', bigSep_empty]
  isplitl [HO Hb Hfl Hi1 Hrows Hout]
  · isplitl [HO]
    · isplitr; · iexact Hrec
      isplitr; · iexact Hlev
      iexact HO
    isplitl [Hb]; · iexact Hb
    isplitl [Hfl]; · iexact Hfl
    isplitl [Hi1]; · iexact Hi1
    isplitl [Hrows Hout]
    · isplitl [Hrows]
      · iapply (Entails.of_eq (erase_peers c (fun d => rowAny (F := F) d c))); iexact Hrows
      iexact Hout
    iempintro
  isplitl [Hat]; · iexact Hat
  isplitl [Hx Hp Hq]
  · isplitl [Hx]; · iexact Hx
    isplitl [Hp]; · iexact Hp
    iexact Hq
  iexact HR

/-- One chunk: its block arrives, the next block's fetch starts, the chunk is made and sent. -/
theorem st_chunk (n : ℕ) (hn : n < 15) {Q : PUnit → sProp 𝕄} {R : sProp 𝕄} {k : PUnit → Prog (TpuEff nD τ sig (Elt F) Λ₀ .tc) PUnit}
    {sm1 sm2 sm3 sm4 : DmaSem sig} {src1 src2 : Memref sig .tc .hbm S4096x512 .f32} {dst1 dst2 : Memref sig .tc .vmem S4096x512 .f32}
    {cs od : Memref sig .tc .vmem S256x512 .f32} {b : Dev nD}
    {hs1 : src1.view.WordExact} {hd1 : dst1.view.WordExact} {hs2 : src2.view.WordExact} {hd2 : dst2.view.WordExact}
    {ht2 : DmaTarget.Typed .hbm (.dma sm2) (DmaTarget.here dst2 : DmaTarget nD τ sig .tc .vmem S4096x512 .f32)}
    {P : Vec F S256x4096 .bf16 → Vec F S1x4096x512 .f32 → Vec F S1x256x512 .f32}
    {hl1 : bM.view.LoadsAt bRect.toLoadRect} {hl2 : fM.view.LoadsAt (fRect (sl n)).toLoadRect} {hl3 : cM.view.LoadsAt (cRect ⟨n, hn⟩).toLoadRect}
    {hx : (cM.access (cRect ⟨n, hn⟩)).Stores Finset.univ} {hm}
    {hsc : od.view.ref.isScScratch = false} {hs3 : cs.view.WordExact} {hd3 : od.view.WordExact}
    {ht3 : DmaTarget.Typed .vmem (.dma sm4) (.remote (b : Thread nD τ) od (.dma sm3) hsc)}
    (e1 : sm1 = locS (sl n)) (e2 : dst1 = fSlot (sl n)) (e3 : src2 = wCol (peer c (n + 2))) (e4 : dst2 = fSlot (sl (n + 1)))
    (e5 : sm2 = locS (sl (n + 1))) (e6 : cs = cSlot ⟨n, hn⟩) (e7 : b = peer c (n + 1)) (e8 : od = oRow c)
    (e9 : sm3 = sndS ⟨n, hn⟩) (e10 : sm4 = rcvS c)
    (hP : ∀ x y, P x y = shapeCast S1x256x512 (chk (sval m c) x (shapeCast S4096x512 y shapeCasts_S1x4096x512_S4096x512)) shapeCasts_S256x512_S1x256x512)
    (H : iprop(It m K c (n + 1) ∗ R) ⊢ WPc c (k ⟨⟩) Q) :
    iprop(It m K c n ∗ R)
      ⊢ WPc c (.op (.waitDma2 sm1 src1 dst1 hs1 hd1) fun _ => .op (.enqueueDma src2 (.here dst2) (.dma sm2) hs2 hd2 ht2) fun _ =>
          .op (.load bM bRect.toLoadRect hl1) fun x => .op (.load fM (fRect (sl n)).toLoadRect hl2) fun y =>
          .op (.load cM (cRect ⟨n, hn⟩).toLoadRect hl3) fun _ => .op (.store cM (cRect ⟨n, hn⟩) (P x y) Finset.univ hx hm) fun _ =>
          .op (.enqueueDma cs (.remote (b : Thread nD τ) od (.dma sm3) hsc) (.dma sm4) hs3 hd3 ht3) k) Q := by
  subst e1; subst e2; subst e4; subst e5; subst e6; subst e7; subst e8; subst e9; subst e10
  obtain rfl : src2 = wCol (blkOf c (sl (n + 1)) ((n + 1) / 2)) := by rw [blkOf_sl]; exact e3
  unfold It Base
  rw [above_split hn]
  unfold outTok
  iintro ⟨⟨⟨#Hrec, #Hlev, HO⟩, Hb, Hfl, Hid, ⟨⟨Hrow, Hts, Htr, Hcs, Htl⟩, Hout⟩, Hcr⟩, HR⟩
  iapply (wp_arrive m K c (sl n) (n / 2) (by omega) n) $$ [HO Hfl]
  · isplitr; · iexact Hrec
    isplitr; · iexact Hlev
    isplitl [HO]; · iexact HO
    iexact Hfl
  iintro ⟨HO, Hrd⟩
  iapply (wp_fetch m K c (sl (n + 1)) ((n + 1) / 2) (by omega)) $$ [Hid Htl]
  · isplitr; · iexact Hrec
    isplitl [Hid]; · iexact Hid
    iexact Htl
  iintro Hfl
  unfold ready
  rw [blkOf_sl]
  icases Hrd with ⟨Hsl, HW, Hat, #Hr⟩
  iapply (wp_make m c (sl n) (peer c (n + 1)) ⟨n, hn⟩ P hP) $$ [Hb Hsl Hcs]
  · isplitl [Hb]; · iexact Hb
    isplitl [Hsl]; · iexact Hsl
    iexact Hcs
  iintro ⟨Hb, Hsl, Hcs⟩
  iapply (wp_chunk m K c ⟨n, hn⟩) $$ [HO Hcs Hrow Hts Htr]
  · isplitr; · iexact Hrec
    isplitl [HO]; · iexact HO
    isplitl [Hcs]; · iexact Hcs
    isplitl [Hrow]; · iexact Hrow
    isplitl [Hts]; · iexact Hts
    iexact Htr
  iintro ⟨HO, Hc⟩
  ihave Hsl := (slotIs_any m c (sl n) (peer c (n + 1))) $$ Hsl
  iapply H
  unfold It Base outTok idle
  rw [below_join hn, sl_two, show (n + 1 + 1) / 2 = n / 2 + 1 by omega]
  isplitr [HR]
  · isplitl [HO]
    · isplitr; · iexact Hrec
      isplitr; · iexact Hlev
      iexact HO
    isplitl [Hb]; · iexact Hb
    isplitl [Hfl]; · iexact Hfl
    isplitl [Hsl HW Hat]
    · isplitl [Hsl]; · iexact Hsl
      isplitl [HW]; · iexact HW
      isplitl [Hat]; · iexact Hat
      iexact Hr
    isplitl [Hout]; · iexact Hout
    isplitl [Hc]; · iexact Hc
    iexact Hcr
  iexact HR

/-! ## The core's own block, and the waits -/

/-- After the core's own block: nothing owed, both slots at rest, its own band written. -/
def Own : sProp 𝕄 :=
  iprop(Base m K c 0 ∗ bPts m c ∗ idle m c 1 8 ∗ idle m c 0 8 ∗ rowIs m c c
    ∗ bigSep Finset.univ (fun o : Fin 15 => (cred (tallyAt (sndCell c o) () N) : sProp 𝕄)))

/-- The device's own chunk, computed and stored in its own band. -/
theorem st_own {Q : PUnit → sProp 𝕄} {R : sProp 𝕄} {k : PUnit → Prog (TpuEff nD τ sig (Elt F) Λ₀ .tc) PUnit}
    {sm1 : DmaSem sig} {src1 : Memref sig .tc .hbm S4096x512 .f32} {dst1 : Memref sig .tc .vmem S4096x512 .f32}
    {hs1 : src1.view.WordExact} {hd1 : dst1.view.WordExact} {off : Fin 2 → ℕ} {inb : ∀ a, off a + S256x512.size a ≤ S4096x512.size a}
    {P : Vec F S256x4096 .bf16 → Vec F S1x4096x512 .f32 → Vec F S256x512 .f32}
    {hl1 : bM.view.LoadsAt bRect.toLoadRect} {hl2 : fM.view.LoadsAt (fRect (sl 15)).toLoadRect}
    {hl3 : oM.view.LoadsAt (Rect.unit (s := S4096x512) off S256x512.size inb).toLoadRect}
    {hx : (oM.access (Rect.unit (s := S4096x512) off S256x512.size inb)).Stores Finset.univ} {hm}
    (e1 : sm1 = locS (sl 15)) (e2 : dst1 = fSlot (sl 15)) (e3 : off = ![256 * c.val, 0])
    (hP : ∀ x y, P x y = chk (sval m c) x (shapeCast S4096x512 y shapeCasts_S1x4096x512_S4096x512))
    (H : iprop(Own m K c ∗ R) ⊢ WPc c (k ⟨⟩) Q) :
    iprop(It m K c 15 ∗ rowAny c c ∗ R)
      ⊢ WPc c (.op (.waitDma2 sm1 src1 dst1 hs1 hd1) fun _ => .op (.load bM bRect.toLoadRect hl1) fun x =>
          .op (.load fM (fRect (sl 15)).toLoadRect hl2) fun y => .op (.load oM (Rect.unit (s := S4096x512) off S256x512.size inb).toLoadRect hl3) fun _ =>
          .op (.store oM (Rect.unit (s := S4096x512) off S256x512.size inb) (P x y) Finset.univ hx hm) k) Q := by
  subst e1; subst e2; subst e3
  unfold It Base
  rw [above_end, below_end, bigSep_empty]
  iintro ⟨⟨⟨#Hrec, #Hlev, HO⟩, Hb, Hfl, Hid, -, Hcr⟩, Hrow, HR⟩
  iapply (wp_arrive m K c (sl 15) (15 / 2) (by omega) 15) $$ [HO Hfl]
  · isplitr; · iexact Hrec
    isplitr; · iexact Hlev
    isplitl [HO]; · iexact HO
    iexact Hfl
  iintro ⟨HO, Hrd⟩
  unfold ready
  rw [blkOf_sl, show peer c (15 + 1) = c from peer_16 c, OR_end]
  icases Hrd with ⟨Hsl, HW, Hat, #Hr⟩
  iapply (wp_own m c (sl 15) P hP) $$ [Hb Hsl Hrow]
  · isplitl [Hb]; · iexact Hb
    isplitl [Hsl]; · iexact Hsl
    iexact Hrow
  iintro ⟨Hb, Hsl, Hrow⟩
  ihave Hsl := (slotIs_any m c (sl 15) c) $$ Hsl
  iapply H
  unfold Own Base idle
  isplitr [HR]
  · isplitl [HO]
    · isplitr; · iexact Hrec
      isplitr; · iexact Hlev
      iexact HO
    isplitl [Hb]; · iexact Hb
    isplitl [Hsl HW Hat]
    · isplitl [Hsl]; · iexact Hsl
      isplitl [HW]; · iexact HW
      isplitl [Hat]; · iexact Hat
      iexact Hr
    isplitl [Hid]; · iexact Hid
    isplitl [Hrow]; · iexact Hrow
    iexact Hcr
  iexact HR

/-- Before the `n`-th departure's wait. -/
def Snd (n : ℕ) : sProp 𝕄 :=
  iprop(Base m K c 0 ∗ bigSep (above n) (fun o : Fin 15 => iprop(cred (tallyAt (sndCell c o) () N) ∗ atPos ER (sndCell c o) 0 ∅ 0))
    ∗ bigSep (below n) (fun o : Fin 15 => iprop(commAny (F := F) c o ∗ atPos ER (sndCell c o) 1 ∅ 0)))

/-- The wait for a departure. -/
theorem st_sent (n : ℕ) (hn : n < 15) {Q : PUnit → sProp 𝕄} {R : sProp 𝕄} {k : PUnit → Prog (TpuEff nD τ sig (Elt F) Λ₀ .tc) PUnit}
    {sm : DmaSem sig} {src dst : Memref sig .tc .vmem S256x512 .f32} {hs : src.view.WordExact} {hd : dst.view.WordExact}
    (e1 : sm = sndS ⟨n, hn⟩) (e2 : dst = cSlot ⟨n, hn⟩)
    (H : iprop(Snd m K c (n + 1) ∗ R) ⊢ WPc c (k ⟨⟩) Q) :
    iprop(Snd m K c n ∗ R) ⊢ WPc c (.op (.waitDma2 sm src dst hs hd) k) Q := by
  subst e1; subst e2
  unfold Snd Base
  rw [above_split hn]
  iintro ⟨⟨⟨#Hrec, #Hlev, HO⟩, ⟨⟨Hc, Hat⟩, Hab⟩, Hbe⟩, HR⟩
  iapply (wp_sent m K c ⟨n, hn⟩) $$ [HO Hc Hat]
  · isplitr; · iexact Hrec
    isplitl [HO]; · iexact HO
    isplitl [Hc]; · iexact Hc
    iexact Hat
  iintro ⟨HO, Hcs, Hat⟩
  iapply H
  unfold Snd Base
  rw [below_join hn]
  isplitr [HR]
  · isplitl [HO]
    · isplitr; · iexact Hrec
      isplitr; · iexact Hlev
      iexact HO
    isplitl [Hab]; · iexact Hab
    isplitl [Hcs Hat]
    · isplitl [Hcs]; · iexact Hcs
      iexact Hat
    iexact Hbe
  iexact HR

/-- Before the `n`-th arrival's wait. -/
def Rcv (n : ℕ) : sProp 𝕄 :=
  iprop(Base m K c 0 ∗ bigSep (above n) (fun o : Fin 15 =>
      iprop(cred (tallyAt (rcvCell c (peer c (o.val + 1))) () N) ∗ atPos ER (rcvCell c (peer c (o.val + 1))) 0 ∅ 0))
    ∗ bigSep (below n) (fun o : Fin 15 => iprop(rowIs m c (peer c (o.val + 1)) ∗ atPos ER (rcvCell c (peer c (o.val + 1))) 1 ∅ 0)))

/-- The wait for an arrival. -/
theorem st_received (n : ℕ) (hn : n < 15) {Q : PUnit → sProp 𝕄} {R : sProp 𝕄} {k : PUnit → Prog (TpuEff nD τ sig (Elt F) Λ₀ .tc) PUnit}
    {sm : DmaSem sig} {src dst : Memref sig .tc .vmem S256x512 .f32} {hs : src.view.WordExact} {hd : dst.view.WordExact}
    (e1 : sm = rcvS (peer c (n + 1))) (e2 : dst = oRow (peer c (n + 1)))
    (H : iprop(Rcv m K c (n + 1) ∗ R) ⊢ WPc c (k ⟨⟩) Q) :
    iprop(Rcv m K c n ∗ R) ⊢ WPc c (.op (.waitDma2 sm src dst hs hd) k) Q := by
  subst e1; subst e2
  unfold Rcv Base
  rw [above_split hn]
  iintro ⟨⟨⟨#Hrec, #Hlev, HO⟩, ⟨⟨Hc, Hat⟩, Hab⟩, Hbe⟩, HR⟩
  iapply (wp_received m K c (peer c (n + 1)) (peer_ne c ⟨n, hn⟩)) $$ [HO Hc Hat]
  · isplitr; · iexact Hrec
    isplitl [HO]; · iexact HO
    isplitl [Hc]; · iexact Hc
    iexact Hat
  iintro ⟨HO, Hcs, Hat⟩
  iapply H
  unfold Rcv Base
  rw [below_join hn]
  isplitr [HR]
  · isplitl [HO]
    · isplitr; · iexact Hrec
      isplitr; · iexact Hlev
      iexact HO
    isplitl [Hab]; · iexact Hab
    isplitl [Hcs Hat]
    · isplitl [Hcs]; · iexact Hcs
      iexact Hat
    iexact Hbe
  iexact HR

end Phases

end Cert.KernelIdealRun

end
-- ==== Proof.IBody.lean ====
module

public import proofs.«01_k».proof.Proof.IPhase
public import Idealize.ShloMosaic.Lib.Pipeline.Launch
public import Idealize.ShloMosaic.Lib.Pipeline.Kit
public import Idealize.ShloMosaic.Lib.Tactic

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! # The body from its first entry to its last wait -/

/-- The semaphores the program picks out of the three arrays. -/
theorem loc_sem (s : Fin 2) {off : Fin 1 → ℕ} (h : off = ![s.val]) (i) (i') :
    ((cc0_scratch3.slice (Rect.unit (s := S2) off S1.size i)).squeeze S_ i').sem = locS s := by
  subst h; revert s; decide
/-- The departure semaphore at a printed offset, -/
theorem snd_sem (k : Fin 15) {off : Fin 1 → ℕ} (h : off = ![k.val]) (i) (i') :
    ((cc0_scratch4.slice (Rect.unit (s := S15) off S1.size i)).squeeze S_ i').sem = sndS k := by
  subst h; revert k; decide
/-- and the arrival semaphore. -/
theorem rcv_sem (p : Dev nD) {off : Fin 1 → ℕ} (h : off = ![p.val]) (i) (i') :
    ((cc0_scratch5.slice (Rect.unit (s := S16) off S1.size i)).squeeze S_ i').sem = rcvS p := by
  subst h; revert p; decide

section Body
variable (K : Dev nD × Kd → ℕ) (c : Dev nD)

/-- What the waits for the departures need besides their credits. -/
def SP : sProp 𝕄 := bigSep Finset.univ (fun o : Fin 15 => atPos ER (sndCell c o) 0 ∅ 0)
/-- What the waits for the arrivals need. -/
def RP : sProp 𝕄 := bigSep Finset.univ (fun o : Fin 15 =>
  iprop(cred (tallyAt (rcvCell c (peer c (o.val + 1))) () N) ∗ atPos ER (rcvCell c (peer c (o.val + 1))) 0 ∅ 0))
/-- What the departures' waits gave. -/
def SQ : sProp 𝕄 := bigSep Finset.univ (fun o : Fin 15 => iprop(commAny (F := F) c o ∗ atPos ER (sndCell c o) 1 ∅ 0))
/-- What stays aside after the core's own block. -/
def Aside (R : sProp 𝕄) : sProp 𝕄 :=
  iprop(bPts m c ∗ idle m c 1 8 ∗ idle m c 0 8 ∗ rowIs m c c ∗ atPos ER (barCell c) 1 ∅ 0 ∗ stg m c ∗ R)

/-- After its own chunk a device has what the waits for the departures need, -/
theorem to_snd {R : sProp 𝕄} :
    iprop(Own m K c ∗ SP c ∗ RP c ∗ atPos ER (barCell c) 1 ∅ 0 ∗ stg m c ∗ R) ⊢ iprop(Snd m K c 0 ∗ RP c ∗ Aside m c R) := by
  unfold Own Snd SP Aside
  rw [above_zero, below_zero, bigSep_empty, bigSep_sep']
  iintro ⟨⟨HB, Hb, H1, H0, Hrow, Hc⟩, Hs, Hr, Hat, Hst, HR⟩
  isplitl [HB Hc Hs]
  · isplitl [HB]; · iexact HB
    isplitl [Hc Hs]
    · isplitl [Hc]; · iexact Hc
      iexact Hs
    iempintro
  isplitl [Hr]; · iexact Hr
  isplitl [Hb]; · iexact Hb
  isplitl [H1]; · iexact H1
  isplitl [H0]; · iexact H0
  isplitl [Hrow]; · iexact Hrow
  isplitl [Hat]; · iexact Hat
  isplitl [Hst]; · iexact Hst
  iexact HR

/-- and after those what the waits for the arrivals need. -/
theorem to_rcv {R : sProp 𝕄} :
    iprop(Snd m K c 15 ∗ RP c ∗ Aside m c R) ⊢ iprop(Rcv m K c 0 ∗ SQ c ∗ Aside m c R) := by
  unfold Snd Rcv RP SQ
  rw [above_zero, below_zero, above_end, below_end, bigSep_empty, bigSep_empty]
  iintro ⟨⟨HB, -, Hs⟩, Hr, HA⟩
  isplitl [HB Hr]
  · isplitl [HB]; · iexact HB
    isplitl [Hr]; · iexact Hr
    iempintro
  isplitl [Hs]; · iexact Hs
  iexact HA

set_option maxHeartbeats 4000000 in
set_option maxRecDepth 65536 in
/-- The body runs from the entry to the last arrival. -/
theorem body_steps {Kt : PUnit → sProp 𝕄} {R : sProp 𝕄}
    (H : iprop(Rcv m K c 15 ∗ SQ c ∗ Aside m c R) ⊢ WPc c (.ret ⟨⟩) Kt) :
    iprop(Ent m K c 0 ∗ Pre0 m c ∗ rowAny c c ∗ SP c ∗ RP c ∗ R) ⊢ wp frame (wpE (defs₀ (F := F)) 𝒱₀ c none) Set.univ
          (cc0_body (F := F) (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5) Kt := by
  rw [cc0_body_eq_skeleton]; unfold cc0_body_skel
  simp only [k0_part31_eq_skeleton]; unfold k0_part31_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton,
   k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton,
   k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton]
  unfold k0_part1_skel k0_part2_skel k0_part3_skel k0_part4_skel k0_part5_skel k0_part6_skel k0_part7_skel k0_part8_skel k0_part9_skel k0_part10_skel
   k0_part11_skel k0_part12_skel k0_part13_skel k0_part14_skel k0_part15_skel k0_part16_skel k0_part17_skel k0_part18_skel k0_part19_skel k0_part20_skel
   k0_part21_skel k0_part22_skel k0_part23_skel k0_part24_skel k0_part25_skel k0_part26_skel k0_part27_skel k0_part28_skel k0_part29_skel k0_part30_skel
  simp only [semSignalWord, semWaitWord, Prog.lift, Prog.bind_op, Prog.bind_ret, Prog.pure_eq_ret, wp_deviceId, smemLoad, smemLoadElt]
  refine st_enter m K c 0 (by omega) (Fin.ext (k0_dev1_eq c)) ?_
  refine st_enter m K c 1 (by omega) (Fin.ext (k0_dev2_eq c)) ?_
  refine st_enter m K c 2 (by omega) (Fin.ext (k0_dev3_eq c)) ?_
  refine st_enter m K c 3 (by omega) (Fin.ext (k0_dev4_eq c)) ?_
  refine st_enter m K c 4 (by omega) (Fin.ext (k0_dev5_eq c)) ?_
  refine st_enter m K c 5 (by omega) (Fin.ext (k0_dev6_eq c)) ?_
  refine st_enter m K c 6 (by omega) (Fin.ext (k0_dev7_eq c)) ?_
  refine st_enter m K c 7 (by omega) (Fin.ext (k0_dev8_eq c)) ?_
  refine st_enter m K c 8 (by omega) (Fin.ext (k0_dev9_eq c)) ?_
  refine st_enter m K c 9 (by omega) (Fin.ext (k0_dev10_eq c)) ?_
  refine st_enter m K c 10 (by omega) (Fin.ext (k0_dev11_eq c)) ?_
  refine st_enter m K c 11 (by omega) (Fin.ext (k0_dev12_eq c)) ?_
  refine st_enter m K c 12 (by omega) (Fin.ext (k0_dev13_eq c)) ?_
  refine st_enter m K c 13 (by omega) (Fin.ext (k0_dev14_eq c)) ?_
  refine st_enter m K c 14 (by omega) (Fin.ext (k0_dev15_eq c)) ?_
  refine st_begin m K c (slice_off wM _ (k0_off1_eq c ⟨0, by decide⟩) _ _) rfl (loc_sem 0 rfl _ _) ?_
  refine st_chunk m K c 0 (by omega) (loc_sem 0 rfl _ _) rfl (slice_off wM _ (k0_off2_eq c ⟨0, by decide⟩) _ _) rfl (loc_sem 1 rfl _ _) rfl (Fin.ext (k0_dev16_eq c)) (slice_off oM _ (k0_off4_eq c) _ _) (snd_sem 0 rfl _ _) (rcv_sem c (k0_off3_eq c) _ _) (fun _ _ => rfl) ?_
  refine st_chunk m K c 1 (by omega) (loc_sem 1 rfl _ _) rfl (slice_off wM _ (k0_off2_eq c ⟨1, by decide⟩) _ _) rfl (loc_sem 0 rfl _ _) rfl (Fin.ext (k0_dev17_eq c)) (slice_off oM _ (k0_off4_eq c) _ _) (snd_sem 1 rfl _ _) (rcv_sem c (k0_off3_eq c) _ _) (fun _ _ => rfl) ?_
  refine st_chunk m K c 2 (by omega) (loc_sem 0 rfl _ _) rfl (slice_off wM _ (k0_off2_eq c ⟨2, by decide⟩) _ _) rfl (loc_sem 1 rfl _ _) rfl (Fin.ext (k0_dev18_eq c)) (slice_off oM _ (k0_off4_eq c) _ _) (snd_sem 2 rfl _ _) (rcv_sem c (k0_off3_eq c) _ _) (fun _ _ => rfl) ?_
  refine st_chunk m K c 3 (by omega) (loc_sem 1 rfl _ _) rfl (slice_off wM _ (k0_off2_eq c ⟨3, by decide⟩) _ _) rfl (loc_sem 0 rfl _ _) rfl (Fin.ext (k0_dev19_eq c)) (slice_off oM _ (k0_off4_eq c) _ _) (snd_sem 3 rfl _ _) (rcv_sem c (k0_off3_eq c) _ _) (fun _ _ => rfl) ?_
  refine st_chunk m K c 4 (by omega) (loc_sem 0 rfl _ _) rfl (slice_off wM _ (k0_off2_eq c ⟨4, by decide⟩) _ _) rfl (loc_sem 1 rfl _ _) rfl (Fin.ext (k0_dev20_eq c)) (slice_off oM _ (k0_off4_eq c) _ _) (snd_sem 4 rfl _ _) (rcv_sem c (k0_off3_eq c) _ _) (fun _ _ => rfl) ?_
  refine st_chunk m K c 5 (by omega) (loc_sem 1 rfl _ _) rfl (slice_off wM _ (k0_off2_eq c ⟨5, by decide⟩) _ _) rfl (loc_sem 0 rfl _ _) rfl (Fin.ext (k0_dev21_eq c)) (slice_off oM _ (k0_off4_eq c) _ _) (snd_sem 5 rfl _ _) (rcv_sem c (k0_off3_eq c) _ _) (fun _ _ => rfl) ?_
  refine st_chunk m K c 6 (by omega) (loc_sem 0 rfl _ _) rfl (slice_off wM _ (k0_off2_eq c ⟨6, by decide⟩) _ _) rfl (loc_sem 1 rfl _ _) rfl (Fin.ext (k0_dev22_eq c)) (slice_off oM _ (k0_off4_eq c) _ _) (snd_sem 6 rfl _ _) (rcv_sem c (k0_off3_eq c) _ _) (fun _ _ => rfl) ?_
  refine st_chunk m K c 7 (by omega) (loc_sem 1 rfl _ _) rfl (slice_off wM _ (k0_off2_eq c ⟨7, by decide⟩) _ _) rfl (loc_sem 0 rfl _ _) rfl (Fin.ext (k0_dev23_eq c)) (slice_off oM _ (k0_off4_eq c) _ _) (snd_sem 7 rfl _ _) (rcv_sem c (k0_off3_eq c) _ _) (fun _ _ => rfl) ?_
  refine st_chunk m K c 8 (by omega) (loc_sem 0 rfl _ _) rfl (slice_off wM _ (k0_off2_eq c ⟨8, by decide⟩) _ _) rfl (loc_sem 1 rfl _ _) rfl (Fin.ext (k0_dev24_eq c)) (slice_off oM _ (k0_off4_eq c) _ _) (snd_sem 8 rfl _ _) (rcv_sem c (k0_off3_eq c) _ _) (fun _ _ => rfl) ?_
  refine st_chunk m K c 9 (by omega) (loc_sem 1 rfl _ _) rfl (slice_off wM _ (k0_off2_eq c ⟨9, by decide⟩) _ _) rfl (loc_sem 0 rfl _ _) rfl (Fin.ext (k0_dev25_eq c)) (slice_off oM _ (k0_off4_eq c) _ _) (snd_sem 9 rfl _ _) (rcv_sem c (k0_off3_eq c) _ _) (fun _ _ => rfl) ?_
  refine st_chunk m K c 10 (by omega) (loc_sem 0 rfl _ _) rfl (slice_off wM _ (k0_off2_eq c ⟨10, by decide⟩) _ _) rfl (loc_sem 1 rfl _ _) rfl (Fin.ext (k0_dev26_eq c)) (slice_off oM _ (k0_off4_eq c) _ _) (snd_sem 10 rfl _ _) (rcv_sem c (k0_off3_eq c) _ _) (fun _ _ => rfl) ?_
  refine st_chunk m K c 11 (by omega) (loc_sem 1 rfl _ _) rfl (slice_off wM _ (k0_off2_eq c ⟨11, by decide⟩) _ _) rfl (loc_sem 0 rfl _ _) rfl (Fin.ext (k0_dev27_eq c)) (slice_off oM _ (k0_off4_eq c) _ _) (snd_sem 11 rfl _ _) (rcv_sem c (k0_off3_eq c) _ _) (fun _ _ => rfl) ?_
  refine st_chunk m K c 12 (by omega) (loc_sem 0 rfl _ _) rfl (slice_off wM _ (k0_off2_eq c ⟨12, by decide⟩) _ _) rfl (loc_sem 1 rfl _ _) rfl (Fin.ext (k0_dev28_eq c)) (slice_off oM _ (k0_off4_eq c) _ _) (snd_sem 12 rfl _ _) (rcv_sem c (k0_off3_eq c) _ _) (fun _ _ => rfl) ?_
  refine st_chunk m K c 13 (by omega) (loc_sem 1 rfl _ _) rfl (slice_off wM _ (k0_off2_eq c ⟨13, by decide⟩) _ _) rfl (loc_sem 0 rfl _ _) rfl (Fin.ext (k0_dev29_eq c)) (slice_off oM _ (k0_off4_eq c) _ _) (snd_sem 13 rfl _ _) (rcv_sem c (k0_off3_eq c) _ _) (fun _ _ => rfl) ?_
  refine st_chunk m K c 14 (by omega) (loc_sem 0 rfl _ _) rfl (slice_off wM _ (k0_off2_eq c ⟨14, by decide⟩) _ _) rfl (loc_sem 1 rfl _ _) rfl (Fin.ext (k0_dev30_eq c)) (slice_off oM _ (k0_off4_eq c) _ _) (snd_sem 14 rfl _ _) (rcv_sem c (k0_off3_eq c) _ _) (fun _ _ => rfl) ?_
  refine BIBase.Entails.trans ?_ (st_own m K c (R := iprop(SP c ∗ RP c ∗ atPos ER (barCell c) 1 ∅ 0 ∗ stg m c ∗ R)) (loc_sem 1 rfl _ _) rfl (k0_off6_eq c) (fun _ _ => rfl) ?_)
  · iintro ⟨Hit, Hat, Hst, Hrow, Hsp, Hrp, HR⟩
    isplitl [Hit]; · iexact Hit
    isplitl [Hrow]; · iexact Hrow
    isplitl [Hsp]; · iexact Hsp
    isplitl [Hrp]; · iexact Hrp
    isplitl [Hat]; · iexact Hat
    isplitl [Hst]; · iexact Hst
    iexact HR
  refine (to_snd m K c).trans ?_
  refine st_sent m K c 0 (by omega) (snd_sem 0 rfl _ _) rfl ?_
  refine st_sent m K c 1 (by omega) (snd_sem 1 rfl _ _) rfl ?_
  refine st_sent m K c 2 (by omega) (snd_sem 2 rfl _ _) rfl ?_
  refine st_sent m K c 3 (by omega) (snd_sem 3 rfl _ _) rfl ?_
  refine st_sent m K c 4 (by omega) (snd_sem 4 rfl _ _) rfl ?_
  refine st_sent m K c 5 (by omega) (snd_sem 5 rfl _ _) rfl ?_
  refine st_sent m K c 6 (by omega) (snd_sem 6 rfl _ _) rfl ?_
  refine st_sent m K c 7 (by omega) (snd_sem 7 rfl _ _) rfl ?_
  refine st_sent m K c 8 (by omega) (snd_sem 8 rfl _ _) rfl ?_
  refine st_sent m K c 9 (by omega) (snd_sem 9 rfl _ _) rfl ?_
  refine st_sent m K c 10 (by omega) (snd_sem 10 rfl _ _) rfl ?_
  refine st_sent m K c 11 (by omega) (snd_sem 11 rfl _ _) rfl ?_
  refine st_sent m K c 12 (by omega) (snd_sem 12 rfl _ _) rfl ?_
  refine st_sent m K c 13 (by omega) (snd_sem 13 rfl _ _) rfl ?_
  refine st_sent m K c 14 (by omega) (snd_sem 14 rfl _ _) rfl ?_
  refine (to_rcv m K c).trans ?_
  refine st_received m K c 0 (by omega) (rcv_sem (peer c (0 + 1)) (k0_off7_eq c ⟨0, by decide⟩) _ _) (slice_off oM _ (k0_off8_eq c ⟨0, by decide⟩) _ _) ?_
  refine st_received m K c 1 (by omega) (rcv_sem (peer c (1 + 1)) (k0_off7_eq c ⟨1, by decide⟩) _ _) (slice_off oM _ (k0_off8_eq c ⟨1, by decide⟩) _ _) ?_
  refine st_received m K c 2 (by omega) (rcv_sem (peer c (2 + 1)) (k0_off7_eq c ⟨2, by decide⟩) _ _) (slice_off oM _ (k0_off8_eq c ⟨2, by decide⟩) _ _) ?_
  refine st_received m K c 3 (by omega) (rcv_sem (peer c (3 + 1)) (k0_off7_eq c ⟨3, by decide⟩) _ _) (slice_off oM _ (k0_off8_eq c ⟨3, by decide⟩) _ _) ?_
  refine st_received m K c 4 (by omega) (rcv_sem (peer c (4 + 1)) (k0_off7_eq c ⟨4, by decide⟩) _ _) (slice_off oM _ (k0_off8_eq c ⟨4, by decide⟩) _ _) ?_
  refine st_received m K c 5 (by omega) (rcv_sem (peer c (5 + 1)) (k0_off7_eq c ⟨5, by decide⟩) _ _) (slice_off oM _ (k0_off8_eq c ⟨5, by decide⟩) _ _) ?_
  refine st_received m K c 6 (by omega) (rcv_sem (peer c (6 + 1)) (k0_off7_eq c ⟨6, by decide⟩) _ _) (slice_off oM _ (k0_off8_eq c ⟨6, by decide⟩) _ _) ?_
  refine st_received m K c 7 (by omega) (rcv_sem (peer c (7 + 1)) (k0_off7_eq c ⟨7, by decide⟩) _ _) (slice_off oM _ (k0_off8_eq c ⟨7, by decide⟩) _ _) ?_
  refine st_received m K c 8 (by omega) (rcv_sem (peer c (8 + 1)) (k0_off7_eq c ⟨8, by decide⟩) _ _) (slice_off oM _ (k0_off8_eq c ⟨8, by decide⟩) _ _) ?_
  refine st_received m K c 9 (by omega) (rcv_sem (peer c (9 + 1)) (k0_off7_eq c ⟨9, by decide⟩) _ _) (slice_off oM _ (k0_off8_eq c ⟨9, by decide⟩) _ _) ?_
  refine st_received m K c 10 (by omega) (rcv_sem (peer c (10 + 1)) (k0_off7_eq c ⟨10, by decide⟩) _ _) (slice_off oM _ (k0_off8_eq c ⟨10, by decide⟩) _ _) ?_
  refine st_received m K c 11 (by omega) (rcv_sem (peer c (11 + 1)) (k0_off7_eq c ⟨11, by decide⟩) _ _) (slice_off oM _ (k0_off8_eq c ⟨11, by decide⟩) _ _) ?_
  refine st_received m K c 12 (by omega) (rcv_sem (peer c (12 + 1)) (k0_off7_eq c ⟨12, by decide⟩) _ _) (slice_off oM _ (k0_off8_eq c ⟨12, by decide⟩) _ _) ?_
  refine st_received m K c 13 (by omega) (rcv_sem (peer c (13 + 1)) (k0_off7_eq c ⟨13, by decide⟩) _ _) (slice_off oM _ (k0_off8_eq c ⟨13, by decide⟩) _ _) ?_
  refine st_received m K c 14 (by omega) (rcv_sem (peer c (14 + 1)) (k0_off7_eq c ⟨14, by decide⟩) _ _) (slice_off oM _ (k0_off8_eq c ⟨14, by decide⟩) _ _) ?_
  exact H

end Body

end Cert.KernelIdealRun

end
-- ==== Proof.IJoin.lean ====
module

public import proofs.«01_k».proof.Proof.IBody
public import Idealize.ShloMosaic.Lib.Pipeline.Launch
public import Idealize.ShloMosaic.Lib.Pipeline.Kit
public import Idealize.ShloMosaic.Lib.Tactic
public import Idealize.ShloMosaic.Lib.ViewIndex
public import Idealize.ShloMosaic.Lib.Rounds.Family

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! # The buffers cut up and joined again -/

section Join
variable (K : Dev nD × Kd → ℕ) (c : Dev nD)

/-! ## Cutting -/

/-- The result cut into its bands, -/
theorem rows_cut (f : Buf (Elt F) ((c : Thread nD τ).loc cc0_stg3_0)) :
    ((((c : Thread nD τ).loc cc0_stg3_0) ↦{fullShare} f) : sProp 𝕄) ⊢ bigSep Finset.univ (fun p : Dev nD => rowAny c p) := by
  have h : ((((c : Thread nD τ).loc cc0_stg3_0) ↦{fullShare} f) : sProp 𝕄)
      = bigSep Finset.univ (fun p : Dev nD => (((c : Thread nD τ).loc cc0_stg3_0) ↦[(oRow p).view.set]{fullShare} f)) := by
    rw [← pointsTo_biUnion (ℓ := (c : Thread nD τ).loc cc0_stg3_0) Finset.univ (fun p : Dev nD => (oRow p).view.set) (fun p _ p' _ h => oRow_disj p p' h)]
    exact congrArg (fun S => (((c : Thread nD τ).loc cc0_stg3_0) ↦[S]{fullShare} f : sProp 𝕄)) oRow_cover.symm
  rw [h]
  exact bigSep_mono fun p _ => show ((((c : Thread nD τ).loc cc0_stg3_0) ↦[(oRow p).view.set]{fullShare} f : sProp 𝕄)) ⊢ rowAny c p from by
    unfold rowAny
    iintro H; iexists f; iexact H

/-- the chunks' buffer into chunks, -/
theorem comm_cut (f : Buf (Elt F) ((c : Thread nD τ).loc cc0_scratch2)) :
    ((((c : Thread nD τ).loc cc0_scratch2) ↦{fullShare} f) : sProp 𝕄) ⊢ bigSep Finset.univ (fun k : Fin 15 => commAny c k) := by
  have h : ((((c : Thread nD τ).loc cc0_scratch2) ↦{fullShare} f) : sProp 𝕄)
      = bigSep Finset.univ (fun k : Fin 15 => (((c : Thread nD τ).loc cc0_scratch2) ↦[(cSlot k).view.set]{fullShare} f)) := by
    rw [← pointsTo_biUnion (ℓ := (c : Thread nD τ).loc cc0_scratch2) Finset.univ (fun k : Fin 15 => (cSlot k).view.set) (fun p _ p' _ h => cSlot_disj p p' h)]
    exact congrArg (fun S => (((c : Thread nD τ).loc cc0_scratch2) ↦[S]{fullShare} f : sProp 𝕄)) cSlot_cover.symm
  rw [h]
  exact bigSep_mono fun p _ => show ((((c : Thread nD τ).loc cc0_scratch2) ↦[(cSlot p).view.set]{fullShare} f : sProp 𝕄)) ⊢ commAny c p from by
    unfold commAny
    iintro H; iexists f; iexact H

/-- Two of a kind, one by one. -/
theorem two_eq (Φ : Fin 2 → sProp 𝕄) : bigSep Finset.univ Φ = iprop(Φ 0 ∗ Φ 1) :=
  bigSep_univ_eq_bigSepL [(0 : Fin 2), (1 : Fin 2)] (by decide) (by decide) Φ

/-- the slots' buffer into slots. -/
theorem slots_cut (f : Buf (Elt F) ((c : Thread nD τ).loc cc0_scratch1)) :
    ((((c : Thread nD τ).loc cc0_scratch1) ↦{fullShare} f) : sProp 𝕄) ⊢ iprop(slotAny c 0 ∗ slotAny c 1) := by
  have h : ((((c : Thread nD τ).loc cc0_scratch1) ↦{fullShare} f) : sProp 𝕄)
      = bigSep Finset.univ (fun k : Fin 2 => (((c : Thread nD τ).loc cc0_scratch1) ↦[(fSlot k).view.set]{fullShare} f)) := by
    rw [← pointsTo_biUnion (ℓ := (c : Thread nD τ).loc cc0_scratch1) Finset.univ (fun k : Fin 2 => (fSlot k).view.set) (fun p _ p' _ h => fSlot_disj p p' h)]
    exact congrArg (fun S => (((c : Thread nD τ).loc cc0_scratch1) ↦[S]{fullShare} f : sProp 𝕄)) fSlot_cover.symm
  rw [h, ← two_eq (fun s => slotAny (F := F) c s)]
  exact bigSep_mono fun p _ => show ((((c : Thread nD τ).loc cc0_scratch1) ↦[(fSlot p).view.set]{fullShare} f : sProp 𝕄)) ⊢ slotAny c p from by
    unfold slotAny
    iintro H; iexists f; iexact H

/-- The two shares of `w`. -/
theorem w_halves : ((((c : Thread nD τ).loc main_arg1) ↦{fullShare} wbuf m c) : sProp 𝕄) ⊣⊢ iprop(WH m c 0 ∗ WH m c 1) :=
  pointsTo_share (PosShare.mem_left_op_right fullShare)

/-! ## Joining -/

/-- The slots put together, -/
theorem slots_join : iprop(slotAny (F := F) c 0 ∗ slotAny c 1)
    ⊢ iprop(∃ f : Buf (Elt F) ((c : Thread nD τ).loc cc0_scratch1), ((c : Thread nD τ).loc cc0_scratch1) ↦{fullShare} f) := by
  rw [← two_eq (fun s => slotAny (F := F) c s)]
  unfold slotAny
  iintro H
  ihave H' := (BI.bigSep_exists_pi Finset.univ (fun (s : Fin 2) (f : Buf (Elt F) ((fSlot s).view.loc (c : Thread nD τ))) =>
    ((fSlot s).view.loc (c : Thread nD τ) ↦[(fSlot s).view.set]{fullShare} f : sProp 𝕄))) $$ H
  icases H' with ⟨%g, H⟩
  ihave H'' := (pointsTo_biUnion_join (ℓ := (c : Thread nD τ).loc cc0_scratch1) Finset.univ (fun s : Fin 2 => (fSlot s).view.set) g (g 0) (fun p _ p' _ h => fSlot_disj p p' h)) $$ H
  icases H'' with ⟨%f, -, H⟩
  iexists f
  iapply (Entails.of_eq (congrArg (fun S => (((c : Thread nD τ).loc cc0_scratch1) ↦[S]{fullShare} f : sProp 𝕄)) fSlot_cover))
  iexact H

/-- the chunks put together. -/
theorem comm_join : bigSep Finset.univ (fun k : Fin 15 => commAny (F := F) c k)
    ⊢ iprop(∃ f : Buf (Elt F) ((c : Thread nD τ).loc cc0_scratch2), ((c : Thread nD τ).loc cc0_scratch2) ↦{fullShare} f) := by
  unfold commAny
  iintro H
  ihave H' := (BI.bigSep_exists_pi Finset.univ (fun (s : Fin 15) (f : Buf (Elt F) ((cSlot s).view.loc (c : Thread nD τ))) =>
    ((cSlot s).view.loc (c : Thread nD τ) ↦[(cSlot s).view.set]{fullShare} f : sProp 𝕄))) $$ H
  icases H' with ⟨%g, H⟩
  ihave H'' := (pointsTo_biUnion_join (ℓ := (c : Thread nD τ).loc cc0_scratch2) Finset.univ (fun s : Fin 15 => (cSlot s).view.set) g (g 0) (fun p _ p' _ h => cSlot_disj p p' h)) $$ H
  icases H'' with ⟨%f, -, H⟩
  iexists f
  iapply (Entails.of_eq (congrArg (fun S => (((c : Thread nD τ).loc cc0_scratch2) ↦[S]{fullShare} f : sProp 𝕄)) cSlot_cover))
  iexact H

/-- Band `p` of the result is the chunk of `p`. -/
theorem out_read (p : Dev nD) : (oRow p).view.read (Elt F) (outC m c) = chunkV m p c := by
  funext x
  have hx0 : (x 0).val < 256 := (x 0).isLt
  have h0 : ((oRow p).view.emb x 0).val = 256 * p.val + (x 0).val := by
    show 256 * p.val + 1 * (x 0).val = _; omega
  have h1 : ((oRow p).view.emb x 1).val = (x 1).val := by
    show 0 + 1 * (x 1).val = _; omega
  have hp : (⟨((oRow p).view.emb x 0).val / 256, row_dev_lt _⟩ : Dev nD) = p := Fin.ext (by show _ / 256 = _; omega)
  have hi : inBand ((oRow p).view.emb x) = x := by
    funext a
    apply Fin.ext
    fin_cases a
    · show ((oRow p).view.emb x 0).val % 256 = (x 0).val; omega
    · exact h1
  show chunkV m ⟨((oRow p).view.emb x 0).val / 256, row_dev_lt _⟩ c (inBand ((oRow p).view.emb x)) = _
  rw [hp, hi]

/-- A filled band holds the result's elements there; -/
theorem row_pts (p : Dev nD) : rowIs m c p ⊢ (((c : Thread nD τ).loc cc0_stg3_0) ↦[(oRow p).view.set]{fullShare} outC m c : sProp 𝕄) := by
  unfold rowIs
  iintro ⟨%f, %hf, H⟩
  iapply (Entails.of_eq (pointsTo_congr (ℓ := (c : Thread nD τ).loc cc0_stg3_0) (I := (oRow p).view.set) (q := fullShare) (f := f) (g := outC m c) (fun i hi => by
    obtain ⟨x, -, rfl⟩ := Finset.mem_map.mp hi
    exact View.eq_of_read_eq (v := (oRow p).view) (congrFun (hf.trans (out_read m c p).symm) x))))
  iexact H

/-- so all of them together are the result. -/
theorem rows_join : bigSep Finset.univ (fun p : Dev nD => rowIs m c p)
    ⊢ (((c : Thread nD τ).loc cc0_stg3_0) ↦{fullShare} outC m c : sProp 𝕄) := by
  refine BIBase.Entails.trans (bigSep_mono fun p _ => row_pts m c p) (Entails.of_eq ?_)
  rw [← pointsTo_biUnion (ℓ := (c : Thread nD τ).loc cc0_stg3_0) Finset.univ (fun p : Dev nD => (oRow p).view.set) (fun p _ p' _ h => oRow_disj p p' h)]
  exact congrArg (fun S => (((c : Thread nD τ).loc cc0_stg3_0) ↦[S]{fullShare} outC m c : sProp 𝕄)) oRow_cover

/-- One of every device: `c`'s, and the peers'. -/
theorem all_peers (Φ : Dev nD → sProp 𝕄) :
    bigSep Finset.univ Φ = iprop(Φ c ∗ bigSep Finset.univ (fun o : Fin 15 => Φ (peer c (o.val + 1)))) := by
  rw [bigSep_univ_at Φ c, erase_peers c Φ]

/-- The kernel's semaphores by kind. -/
theorem kinds (Φ : Ks → sProp 𝕄) : bigSep Finset.univ Φ
    = iprop((Φ (.inl 0) ∗ Φ (.inl 1)) ∗ bigSep Finset.univ (fun o : Fin 15 => Φ (.inr (.inl o))) ∗ bigSep Finset.univ (fun p : Dev nD => Φ (.inr (.inr p)))) := by
  rw [bigSep_univ_sum, bigSep_univ_sum, two_eq]; rfl

end Join

end Cert.KernelIdealRun

end
-- ==== Proof.IFin.lean ====
module

public import proofs.«01_k».proof.Proof.IJoin
public import Idealize.ShloMosaic.Lib.Pipeline.Launch
public import Idealize.ShloMosaic.Lib.Pipeline.Kit
public import Idealize.ShloMosaic.Lib.Tactic
public import Idealize.ShloMosaic.Lib.Rounds.Family

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! # The cells closed and the buffers given back -/

section Fin
variable (K : Dev nD × Kd → ℕ) (c : Dev nD)

omit [FloatOps F] in
/-- A persistent fact is at hand for every member of a family. -/
theorem each_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  iintro ⟨#HR, H⟩
  iapply (show iprop(bigSep S (fun _ => R) ∗ bigSep S Φ) ⊢ bigSep S Ψ from by rw [← bigSep_sep']; exact bigSep_mono h)
  isplitr
  · iapply (BI.bigSep_of_persistent S R); iexact HR
  · iexact H

/-- A cell past its last duty closes: its counter is zero. -/
theorem close_one (k : Kd) (R : ℕ) (hR : ∀ r, R ≤ r → (rd (F := F) m).duties (kcell (c, k)) r = ∅) :
    iprop(records m K ∗ atPos ER (kcell (c, k)) R ∅ 0) ⊢ |={Set.univ}=> (semVal (kcell (c, k)) 0 : sProp 𝕄) := by
  iintro ⟨#Hrec, Hat⟩
  ihave #Hb := (rec_at m K c k) $$ Hrec
  icases Hb with ⟨#HI, -⟩
  iapply (Rounds.cell_close ER (rd m) (Set.mem_univ (K (c, k))) (fun h => h) (R := R) hR)
  isplitr; · iexact HI
  iexact Hat

/-- A family of them. -/
theorem close_all {I : Type} [Fintype I] [DecidableEq I] (k : I → Kd) (R : ℕ)
    (hR : ∀ i r, R ≤ r → (rd (F := F) m).duties (kcell (c, k i)) r = ∅) :
    iprop(records m K ∗ bigSep Finset.univ (fun i => (atPos ER (kcell (c, k i)) R ∅ 0 : sProp 𝕄)))
      ⊢ |={Set.univ}=> bigSep Finset.univ (fun i => (semVal (kcell (c, k i)) 0 : sProp 𝕄)) := by
  refine BIBase.Entails.trans (each_with (Ψ := fun i => iprop(|={Set.univ}=> semVal (kcell (c, k i)) 0)) fun i _ => close_one m K c (k i) R (hR i)) ?_
  exact bigSep_fupd _ _

/-- What is given back after the body: `w`, the scratch buffers, every counter at zero. -/
def Φ₁ : sProp 𝕄 :=
  iprop((((c : Thread nD τ).loc main_arg1) ↦{fullShare} wbuf m c)
    ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ semVal (barCell c) 0 ∗ bigSep Finset.univ (fun k : Ks => (semVal ((c : Thread nD τ), osem k) 0 : sProp 𝕄)))

/-- After the last wait the body's resources are those. -/
theorem finish {R : sProp 𝕄} :
    iprop(Rcv m K c 15 ∗ SQ c ∗ Aside m c iprop(atPos ER (rcvCell c c) 0 ∅ 0 ∗ R))
      ⊢ |={Set.univ}=> iprop(Φ₁ m c ∗ owesE c 0 ∗ stg m c ∗ (((c : Thread nD τ).loc cc0_stg3_0) ↦{fullShare} outC m c) ∗ R) := by
  unfold Rcv SQ Aside Base idle
  rw [below_end, above_end, bigSep_empty, bigSep_sep', bigSep_sep']
  iintro ⟨⟨⟨#Hrec, -, HO⟩, -, Hrows, Hrp⟩, ⟨Hcomm, Hsp⟩, Hb, ⟨Hs1, Hw1, Hl1, -⟩, ⟨Hs0, Hw0, Hl0, -⟩, Hown, Hbar, Hstg, Hrc, HR⟩
  imod (close_one m K c (.inl ()) 1 (later_bar m c)) $$ [Hbar] with HzB
  · isplitr; · iexact Hrec
    iexact Hbar
  imod (close_one m K c (.inr (.inl 0)) 8 (later_loc m c 0)) $$ [Hl0] with Hz0
  · isplitr; · iexact Hrec
    iexact Hl0
  imod (close_one m K c (.inr (.inl 1)) 8 (later_loc m c 1)) $$ [Hl1] with Hz1
  · isplitr; · iexact Hrec
    iexact Hl1
  imod (close_one m K c (.inr (.inr (.inr c))) 0 (own_rcv m c)) $$ [Hrc] with HzC
  · isplitr; · iexact Hrec
    iexact Hrc
  imod (close_all m K c (fun o : Fin 15 => .inr (.inr (.inl o))) 1 (fun o => later_snd m c o)) $$ [Hsp] with HzS
  · isplitr; · iexact Hrec
    iexact Hsp
  imod (close_all m K c (fun o : Fin 15 => .inr (.inr (.inr (peer c (o.val + 1))))) 1 (fun o => later_rcv m c (peer c (o.val + 1)))) $$ [Hrp] with HzR
  · isplitr; · iexact Hrec
    iexact Hrp
  imodintro
  unfold Φ₁ bPts
  rw [kinds, all_peers c (fun p : Dev nD => (semVal ((c : Thread nD τ), osem (.inr (.inr p))) 0 : sProp 𝕄))]
  isplitl [Hcomm Hb Hs1 Hw1 Hs0 Hw0 HzB Hz0 Hz1 HzC HzS HzR]
  · isplitl [Hw0 Hw1]
    · iapply (w_halves m c).2
      isplitl [Hw0] <;> iassumption
    isplitl [Hb]; · iexists _; iexact Hb
    isplitl [Hs0 Hs1]
    · iapply (slots_join (F := F) c)
      isplitl [Hs0] <;> iassumption
    isplitl [Hcomm]; · iapply (comm_join (F := F) c); iexact Hcomm
    isplitl [HzB]; · iexact HzB
    isplitl [Hz0 Hz1]
    · isplitl [Hz0] <;> iassumption
    isplitl [HzS]; · iexact HzS
    isplitl [HzC] <;> iassumption
  isplitl [HO]; · iexact HO
  isplitl [Hstg]; · iexact Hstg
  isplitl [Hrows Hown]
  · iapply (rows_join m c)
    iapply (Entails.of_eq (all_peers c (fun p : Dev nD => rowIs (F := F) m c p)).symm)
    isplitl [Hown] <;> iassumption
  iexact HR

end Fin

end Cert.KernelIdealRun

end
-- ==== Proof.ICore.lean ====
module

public import proofs.«01_k».proof.Proof.IFin
public import Idealize.ShloMosaic.Lib.Pipeline.Launch
public import Idealize.ShloMosaic.Lib.Pipeline.Kit
public import Idealize.ShloMosaic.Lib.Tactic
public import Idealize.ShloMosaic.Lib.Rounds.Family

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! # The body between its pipeline's ends -/

/-- There is one grid point. -/
theorem fin_N (t : Fin cfg0.N) : t = (t0_0 : Fin cfg0.N) := fin_N0 t

section Ghost
variable (c : Dev nD)

/-- The tokens of the duties device `c` pays. -/
def payToks : sProp 𝕄 :=
  iprop(bigSep Finset.univ (fun o : Fin 15 => dutyTok ER (barCell (peer c (o.val + 1))) 0 c)
    ∗ bigSep Finset.univ (fun o : Fin 15 => dutyTok ER (sndCell c o) 0 0)
    ∗ bigSep Finset.univ (fun o : Fin 15 => dutyTok ER (rcvCell (peer c (o.val + 1)) c) 0 0)
    ∗ bigSep Finset.univ (fun o : Fin 15 => dutyTok ER (locCell c (sl (o.val + 1))) ((o.val + 1) / 2) 0)
    ∗ dutyTok ER (locCell c 0) 0 0)

/-- What device `c` starts from of the protocol: the cells' records, its positions, its tokens. -/
def ghost (K : Dev nD × Kd → ℕ) : sProp 𝕄 :=
  iprop(records m K ∗ bigSep Finset.univ (fun k : Kd => atPos ER (kcell (c, k)) 0 ∅ 0) ∗ payToks c)

/-- That, its credit, the levels and its `w`. -/
def start : sProp 𝕄 :=
  iprop((∃ K, ghost m c K) ∗ cred (tallyAt (barCell c) () 15)
    ∗ bigSep Finset.univ (fun o : Fin 15 => cred (tallyAt (rcvCell c (peer c (o.val + 1))) () N))
    ∗ levAts L lv ∗ (((c : Thread nD τ).loc main_arg1) ↦{fullShare} wbuf m c))

/-- The scratch buffers at any contents. -/
def scr : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

/-- What the body starts from. -/
def Φ₀ : sProp 𝕄 := iprop(start m c ∗ scr c)

/-- The positions by kind. -/
theorem pos_kinds :
    bigSep Finset.univ (fun k : Kd => (atPos ER (kcell (c, k)) 0 ∅ 0 : sProp 𝕄))
      ⊢ iprop(atPos ER (barCell c) 0 ∅ 0 ∗ atPos ER (locCell c 0) 0 ∅ 0 ∗ atPos ER (locCell c 1) 0 ∅ 0
        ∗ SP c ∗ atPos ER (rcvCell c c) 0 ∅ 0 ∗ bigSep Finset.univ (fun o : Fin 15 => atPos ER (rcvCell c (peer c (o.val + 1))) 0 ∅ 0)) := by
  rw [bigSep_univ_sum, kinds, all_peers c (fun p : Dev nD => (atPos ER (kcell (c, .inr (.inr (.inr p)))) 0 ∅ 0 : sProp 𝕄)),
    show bigSep (Finset.univ : Finset Unit) (fun a => (atPos ER (kcell (c, .inl a)) 0 ∅ 0 : sProp 𝕄)) = atPos ER (barCell c) 0 ∅ 0 from bigSep_singleton]
  show iprop(atPos ER (barCell c) 0 ∅ 0 ∗ (_ ∗ _) ∗ _ ∗ _ ∗ _) ⊢ _
  unfold SP
  iintro ⟨HB, ⟨H0, H1⟩, HS, HC, HR⟩
  isplitl [HB]; · iexact HB
  isplitl [H0]; · iexact H0
  isplitl [H1]; · iexact H1
  isplitl [HS]; · iexact HS
  isplitl [HC] <;> iassumption

/-- The body's resources as its first steps take them. -/
theorem gather (K : Dev nD × Kd → ℕ) (f : Buf (Elt F) ((c : Thread nD τ).loc cc0_stg3_0)) {R : sProp 𝕄} :
    iprop((ghost m c K ∗ cred (tallyAt (barCell c) () 15)
        ∗ bigSep Finset.univ (fun o : Fin 15 => cred (tallyAt (rcvCell c (peer c (o.val + 1))) () N))
        ∗ levAts L lv ∗ (((c : Thread nD τ).loc main_arg1) ↦{fullShare} wbuf m c)) ∗ scr c
        ∗ owesE c (O₀ c) ∗ stg m c ∗ (((c : Thread nD τ).loc cc0_stg3_0) ↦{fullShare} f) ∗ R)
      ⊢ iprop(Ent m K c 0 ∗ Pre0 m c ∗ rowAny c c ∗ SP c ∗ RP c ∗ (atPos ER (rcvCell c c) 0 ∅ 0 ∗ R)) := by
  unfold ghost payToks scr
  iintro ⟨⟨⟨#Hrec, Hpos, HtB, HtS, HtR, HtL, Ht0⟩, HcB, HcR, #Hlev, Hw⟩, ⟨Hs0, ⟨%f1, Hs1⟩, ⟨%f2, Hs2⟩⟩, HO, Hstg, Hout, HR⟩
  ihave Hp := (pos_kinds c) $$ Hpos
  icases Hp with ⟨HpB, Hp0, Hp1, HpS, HpC, HpR⟩
  ihave Hsl := (slots_cut c f1) $$ Hs1
  icases Hsl with ⟨Hsl0, Hsl1⟩
  ihave Hcm := (comm_cut c f2) $$ Hs2
  ihave Hro := (rows_cut c f) $$ Hout
  ihave Hro' := (Entails.of_eq (all_peers c (fun p : Dev nD => rowAny (F := F) c p))) $$ Hro
  icases Hro' with ⟨Hown, Hrows⟩
  ihave Hwh := (w_halves m c).1 $$ Hw
  icases Hwh with ⟨Hw0, Hw1⟩
  ihave #Hb0 := (rec_at m K c (.inr (.inl 0))) $$ Hrec
  icases Hb0 with ⟨-, #Hr0⟩
  ihave #Hb1 := (rec_at m K c (.inr (.inl 1))) $$ Hrec
  icases Hb1 with ⟨-, #Hr1⟩
  unfold Ent Pre0 Base idle RP outTok O₀
  rw [above_zero]
  simp only [bigSep_sep']
  isplitl [HO HtB Hrows]
  · isplitl [HO]
    · isplitr; · iexact Hrec
      isplitr; · iexact Hlev
      iexact HO
    isplitl [HtB] <;> iassumption
  isplitl [HcB HpB Hstg Hs0 Hsl0 Hw0 Hp0 Hsl1 Hw1 Hp1 Ht0 HtS HtR HtL Hcm]
  · isplitl [HcB]; · iexact HcB
    isplitl [HpB]; · iexact HpB
    isplitl [Hstg]; · iexact Hstg
    isplitl [Hs0]; · iexact Hs0
    isplitl [Hsl0 Hw0 Hp0]
    · isplitl [Hsl0]; · iexact Hsl0
      isplitl [Hw0]; · iexact Hw0
      isplitl [Hp0]; · iexact Hp0
      iexact Hr0
    isplitl [Hsl1 Hw1 Hp1]
    · isplitl [Hsl1]; · iexact Hsl1
      isplitl [Hw1]; · iexact Hw1
      isplitl [Hp1]; · iexact Hp1
      iexact Hr1
    isplitl [Ht0]; · iexact Ht0
    isplitl [HtS]; · iexact HtS
    isplitl [HtR]; · iexact HtR
    isplitl [Hcm]; · iexact Hcm
    iexact HtL
  isplitl [Hown]; · iexact Hown
  isplitl [HpS]; · iexact HpS
  isplitl [HcR HpR]
  · isplitl [HcR] <;> iassumption
  isplitl [HpC] <;> iassumption

end Ghost

/-- The pipeline's data on device `c`: nothing staged but the operands and the result. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => pstg m c
    | ⟨2, _⟩ => qstg m c
    | ⟨3, _⟩ => outC m c
  Φ t := match t with
    | ⟨0, _⟩ => Φ₀ m c
    | ⟨_ + 1, _⟩ => Φ₁ m c
  q _ := fullShare
  owed t := match t with
    | ⟨0, _⟩ => O₀ c
    | ⟨_ + 1, _⟩ => 0

section Body
variable (c : Dev nD)

omit [FloatOps F] in
/-- Holding a whole buffer's view is holding the buffer. -/
theorem owns_whole (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- Every operand is fetched at the one point. -/
theorem fetch_in (w : Fin 4) (hw : w ≠ 3) (t : Fin cfg0.N) : (cfg0.win w).fetch t = true := by
  rw [fin_N t]; revert w; decide

/-- A staging buffer with its contents. -/
abbrev stgd (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body is given, -/
def bodyPre : sProp 𝕄 :=
  iprop(Φ₀ m c ∗ (dats m ρ 0 c).owesAt () (t0_0 : Fin cfg0.N).castSucc
    ∗ (∃ d, stgd c cc0_stg0_0 ((dats m ρ 0 c).before (0 : Fin 4) t0_0 d))
    ∗ (∃ d, stgd c cc0_stg1_0 ((dats m ρ 0 c).before (1 : Fin 4) t0_0 d))
    ∗ (∃ d, stgd c cc0_stg2_0 ((dats m ρ 0 c).before (2 : Fin 4) t0_0 d))
    ∗ (∃ d, stgd c cc0_stg3_0 ((dats m ρ 0 c).before (3 : Fin 4) t0_0 d)))

/-- and what it leaves. -/
def bodyPost : sProp 𝕄 :=
  iprop(Φ₁ m c ∗ (dats m ρ 0 c).owesAt () (t0_0 : Fin cfg0.N).succ ∗ stgd c cc0_stg0_0 (xstg m c) ∗ stgd c cc0_stg1_0 (pstg m c)
    ∗ stgd c cc0_stg2_0 (qstg m c) ∗ stgd c cc0_stg3_0 (outC m c))

/-- At its last wait the body has its post. -/
theorem body_end (K : Dev nD × Kd → ℕ) :
    iprop(Rcv m K c 15 ∗ SQ c ∗ Aside m c iprop(atPos ER (rcvCell c c) 0 ∅ 0 ∗ emp)) ⊢ WPc c (.ret (⟨⟩ : PUnit)) (fun _ => bodyPost m ρ c) := by
  unfold WPc; rw [wp_ret]
  iintro H
  imod (finish m K c) $$ H with ⟨HΦ, HO, Hstg, Hout, -⟩
  imodintro
  unfold bodyPost stg owesE Dat.owesAt Pipeline.owesWithin
  rw [show (dats m ρ 0 c).owed (t0_0 : Fin cfg0.N).succ = 0 from rfl]
  icases HO with ⟨%W, HO⟩
  icases Hstg with ⟨Hx, Hp, Hq⟩
  isplitl [HΦ]; · iexact HΦ
  isplitl [HO]
  · iexists W
    isplitr; · ipureintro; exact fun _ _ => Or.inl trivial
    iexact HO
  isplitl [Hx]
  · iexists _; isplitr; · (ipureintro; rfl)
    iexact Hx
  isplitl [Hp]
  · iexists _; isplitr; · (ipureintro; rfl)
    iexact Hp
  isplitl [Hq]
  · iexists _; isplitr; · (ipureintro; rfl)
    iexact Hq
  iexists _; isplitr; · (ipureintro; rfl)
  iexact Hout

set_option maxRecDepth 4000 in
/-- The body from its pre to its post. -/
theorem body_sound : bodyPre m ρ c ⊢ wp frame (wpE (defs₀ (F := F)) 𝒱₀ c none) Set.univ
          (cc0_body (F := F) (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5) (fun _ => bodyPost m ρ c) := by
  unfold bodyPre Φ₀ start
  iintro ⟨⟨⟨⟨%K, Hg⟩, Hrest⟩, Hscr⟩, Ho, ⟨%d0, %g0, %hg0, Hx⟩, ⟨%d1, %g1, %hg1, Hp⟩, ⟨%d2, %g2, %hg2, Hq⟩, ⟨%d3, %g3, %hg3, Hout⟩⟩
  have h0 : g0 = xstg m c := by rw [hg0]; unfold Dat.before; rw [if_pos (fetch_in 0 (by decide) t0_0)]; rfl
  have h1 : g1 = pstg m c := by rw [hg1]; unfold Dat.before; rw [if_pos (fetch_in 1 (by decide) t0_0)]; rfl
  have h2 : g2 = qstg m c := by rw [hg2]; unfold Dat.before; rw [if_pos (fetch_in 2 (by decide) t0_0)]; rfl
  subst h0 h1 h2
  unfold Dat.owesAt Pipeline.owesWithin
  icases Ho with ⟨%W, %hW, HO⟩
  iapply (body_steps m K c (body_end m ρ c K))
  iapply (gather m c K g3)
  unfold owesE stg
  isplitl [Hg Hrest]
  · isplitl [Hg]; · iexact Hg
    iexact Hrest
  isplitl [Hscr]; · iexact Hscr
  isplitl [HO]; · iexists W; iexact HO
  isplitl [Hx Hp Hq]
  · isplitl [Hx]; · iexact Hx
    isplitl [Hp] <;> iassumption
  isplitl [Hout]; · iexact Hout
  iempintro

set_option maxRecDepth 65536 in
/-- What the pipeline asks of the body. -/
theorem body_obligation : BodyObligation (dats (F := F) m ρ 0 c) (defs₀ (F := F)) 𝒱₀ () Set.univ := fun t => by
  rw [fin_N t]
  rw [bigSep_W0, bigSep_W0]
  simp only [owns_whole]
  exact body_sound m ρ c

end Body

end Cert.KernelIdealRun

end
-- ==== Proof.IRun.lean ====
module

public import proofs.«01_k».proof.Proof.ICore
public import Idealize.ShloMosaic.Lib.Pipeline.Launch
public import Idealize.ShloMosaic.Lib.Pipeline.Kit
public import Idealize.ShloMosaic.Lib.Tactic
public import Idealize.ShloMosaic.Lib.Rounds.Family
public import Idealize.ShloMosaic.Lib.Pipeline.CollectiveSegs

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! # The launch and the run -/

/-- The scratch semaphores are those the launch declares. -/
theorem ownSemFacts : Pipeline.OwnSemFacts cfg0.spec osem := by decide

/-- Every array is held whole. -/
theorem share_full (c : Dev nD) (w : Fin cfg0.W) : (dats m ρ 0 c).share w = fullShare := by unfold Dat.share; split <;> rfl

/-! ## The tokens -/

/-- A device's payments: an entry to each other device, a departure, an arrival and a fetch for each, and the first fetch. -/
abbrev Pay : Type := Fin 15 ⊕ Fin 15 ⊕ Fin 15 ⊕ Fin 15 ⊕ Unit
/-- The duty that a place in the deal stands for. -/
def tokOf (cj : Dev nD × Pay) : GSem nD τ sig × ℕ × Fin 16 := match cj.2 with
  | .inl o => (barCell (peer cj.1 (o.val + 1)), 0, cj.1)
  | .inr (.inl o) => (sndCell cj.1 o, 0, 0)
  | .inr (.inr (.inl o)) => (rcvCell (peer cj.1 (o.val + 1)) cj.1, 0, 0)
  | .inr (.inr (.inr (.inl o))) => (locCell cj.1 (sl (o.val + 1)), (o.val + 1) / 2, 0)
  | .inr (.inr (.inr (.inr _))) => (locCell cj.1 0, 0, 0)

/-- A token's payer and payment read back from it. -/
def payer (x : GSem nD τ sig × ℕ × Fin 16) : Dev nD × Option (Fin 4) × ℕ := match kindOf x.1.2 with
  | some (.inl _) => (x.2.2, some 0, (x.1.1.1.val + 16 - x.2.2.val) % 16)
  | some (.inr (.inr (.inl k))) => (x.1.1.1, some 1, k.val)
  | some (.inr (.inr (.inr p))) => (p, some 2, (x.1.1.1.val + 16 - p.val) % 16)
  | some (.inr (.inl s)) => (x.1.1.1, some 3, 2 * x.2.1 + s.val)
  | none => (0, none, 0)

/-- Who pays an entry, -/
theorem payer_bar (c : Dev nD) (o : Fin 15) : payer (tokOf (c, .inl o)) = (c, some 0, o.val + 1) := by
  unfold payer tokOf; dsimp only; rw [kindOf_bar]; dsimp only [Dev.tc]
  rw [show (((peer c (o.val + 1)).val + 16 - c.val) % 16) = o.val + 1 by rw [peer_val]; have := dev_lt c; have := o.isLt; omega]
/-- a departure, -/
theorem payer_snd (c : Dev nD) (o : Fin 15) : payer (tokOf (c, .inr (.inl o))) = (c, some 1, o.val) := by
  unfold payer tokOf; dsimp only; rw [kindOf_snd]
/-- an arrival, -/
theorem payer_rcv (c : Dev nD) (o : Fin 15) : payer (tokOf (c, .inr (.inr (.inl o)))) = (c, some 2, o.val + 1) := by
  unfold payer tokOf; dsimp only; rw [kindOf_rcv]; dsimp only [Dev.tc]
  rw [show (((peer c (o.val + 1)).val + 16 - c.val) % 16) = o.val + 1 by rw [peer_val]; have := dev_lt c; have := o.isLt; omega]
/-- a fetch, -/
theorem payer_loc (c : Dev nD) (o : Fin 15) : payer (tokOf (c, .inr (.inr (.inr (.inl o))))) = (c, some 3, o.val + 1) := by
  unfold payer tokOf; dsimp only; rw [kindOf_loc]; dsimp only [Dev.tc, sl]
  rw [show 2 * ((o.val + 1) / 2) + (o.val + 1) % 2 = o.val + 1 by omega]
/-- and the first fetch. -/
theorem payer_first (c : Dev nD) (u : Unit) : payer (tokOf (c, .inr (.inr (.inr (.inr u))))) = (c, some 3, 0) := by
  unfold payer tokOf; dsimp only; rw [kindOf_loc]; rfl

/-- No duty is dealt twice. -/
theorem tokOf_injective : Function.Injective tokOf := by
  rintro ⟨c, j⟩ ⟨c', j'⟩ h
  have h := congrArg payer h
  rcases j with o | o | o | o | u <;> rcases j' with o' | o' | o' | o' | u' <;>
    simp only [payer_bar, payer_snd, payer_rcv, payer_loc, payer_first, Prod.mk.injEq, Option.some.injEq] at h <;>
    obtain ⟨rfl, h1, h2⟩ := h <;>
    first
    | rfl
    | exact absurd h1 (by decide)
    | (rw [Fin.ext (by omega : o.val = o'.val)])
    | exact absurd h2 (by omega)

/-- All the cells, -/
def allCells : Finset (GSem nD τ sig) := Finset.univ.map ⟨kcell, kcell_injective⟩
/-- and all the duties. -/
def allToks : Finset (GSem nD τ sig × ℕ × Fin 16) := Finset.univ.map ⟨tokOf, tokOf_injective⟩

/-- The launch's ghost element: the pipeline's, and the protocol's. -/
def u₀ : UU := (initOf (Pipeline.cells cfgs cellOf_inj) (Pipeline.launchToks cfgs cellOf_inj), initOf allCells allToks)

section Deal
variable (c : Dev nD)

/-- What the launch element deals device `c`, -/
def G : sProp 𝕄 :=
  iprop((bigSep Finset.univ fun k : Kd => roundState ER (rd m) (kcell (c, k)) 0)
    ∗ (bigSep Finset.univ fun k : Kd => atPos ER (kcell (c, k)) 0 ∅ 0)
    ∗ (bigSep Finset.univ fun k : Kd => reached ER (kcell (c, k)) 0) ∗ payToks c)
/-- and what is made of it. -/
def G' : sProp 𝕄 := iprop(∃ K, ghost m c K)

/-- A device's tokens by payment. -/
theorem toks_eq : bigSep Finset.univ (fun j : Pay => (dutyTok ER (tokOf (c, j)).1 (tokOf (c, j)).2.1 (tokOf (c, j)).2.2 : sProp 𝕄)) = payToks c := by
  rw [bigSep_univ_sum, bigSep_univ_sum, bigSep_univ_sum, bigSep_univ_sum]
  unfold payToks
  rw [show bigSep (Finset.univ : Finset Unit) (fun u => (dutyTok ER (tokOf (c, .inr (.inr (.inr (.inr u))))).1 (tokOf (c, .inr (.inr (.inr (.inr u))))).2.1
    (tokOf (c, .inr (.inr (.inr (.inr u))))).2.2 : sProp 𝕄)) = dutyTok ER (locCell c 0) 0 0 from bigSep_singleton]
  rfl

end Deal

/-- The exchange's ghost state, dealt to the devices. -/
theorem deal : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Kd => Φ (kcell (c, k)) := by
    unfold allCells; rw [bigSep_map, bigSep_univ_prod]; rfl
  have hT : bigSep allToks (fun x => (dutyTok ER x.1 x.2.1 x.2.2 : sProp 𝕄)) = bigSep Finset.univ fun c : Dev nD => payToks c := by
    unfold allToks; rw [bigSep_map, bigSep_univ_prod]
    exact bigSep_congr fun c _ => toks_eq c
  iintro HX
  imod (Rounds.fund ER (rd m) allCells allToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr'] <;> iassumption

/-! ## The cells opened -/

section Open
variable (c : Dev nD)

omit [FloatOps F] in
/-- The barrier's counter is the one that is there before the launch, -/
theorem unscoped_eq : (unscopedSems0 c : sProp 𝕄) = semVal (barCell c) 0 := by
  unfold unscopedSems0; rw [bigSep_eq_bigSepL_of_eq [SemLoc.reg barS] (by decide) (by decide)]; rfl

omit [FloatOps F] in
/-- the others come with it. -/
theorem own_eq : (Pipeline.ownSems0 (Ix := Unit) (Name := ℕ) (U := UU) (Lvl := ℕ) (Val := Elt F) (τ := τ) osem c : sProp 𝕄)
    = bigSep Finset.univ (fun k : Ks => (semVal ((c : Thread nD τ), osem k) 0 : sProp 𝕄)) := rfl

omit [FloatOps F] in
/-- All the counters at zero, as one family. -/
theorem counters :
    iprop(Pipeline.ownSems0 (Ix := Unit) (Name := ℕ) (U := UU) (Lvl := ℕ) (Val := Elt F) (τ := τ) osem c ∗ unscopedSems0 c)
      ⊢ (bigSep Finset.univ fun k : Kd => semVal (kcell (c, k)) 0 : sProp 𝕄) := by
  rw [own_eq, unscoped_eq, bigSep_univ_sum (fun k : Kd => (semVal (kcell (c, k)) 0 : sProp 𝕄)),
    show bigSep (Finset.univ : Finset Unit) (fun a => (semVal (kcell (c, .inl a)) 0 : sProp 𝕄)) = semVal (barCell c) 0 from bigSep_singleton]
  show iprop(_ ∗ _) ⊢ iprop(_ ∗ _)
  iintro ⟨HK, HB⟩
  isplitl [HB] <;> iassumption

/-- The counters become the cells of the schedule. -/
theorem open_cells :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (rd m) κ (kcell (c, k))))
          ∗ (bigSep Finset.univ fun k : Kd => atPos ER (kcell (c, k)) 0 ∅ 0)
          ∗ (bigSep Finset.univ fun k : Kd => reached ER (kcell (c, k)) 0) ∗ payToks c) := by
  unfold G
  iintro ⟨Hos, Hus, Hst, Hat, Hr, Htok⟩
  ihave Hv := (counters (F := F) c) $$ [Hos Hus]
  · isplitl [Hos] <;> iassumption
  imod (show iprop((bigSep Finset.univ fun k : Kd => semVal (kcell (c, k)) 0) ∗ bigSep Finset.univ fun k : Kd => roundState ER (rd m) (kcell (c, k)) 0)
      ⊢ (|={Set.univ}=> bigSep Finset.univ fun k => iprop(∃ κ : ℕ, cellInv ER (rd m) κ (kcell (c, k))) : sProp 𝕄) from by
        rw [← bigSep_sep']
        exact BIBase.Entails.trans (bigSep_mono fun k _ => BIBase.Entails.trans (Rounds.body_intro ER (rd m) (kcell (c, k))) inv_alloc) (bigSep_fupd _ _)) $$ [Hv Hst] with Hinv
  · isplitl [Hv] <;> iassumption
  imodintro
  isplitl [Hinv]; · iexact Hinv
  isplitl [Hat]; · iexact Hat
  isplitl [Hr] <;> iassumption

end Open

/-- Every cell open, each device has its ghost state. -/
theorem gather_all :
    (bigSep Finset.univ fun c : Dev nD => iprop((bigSep Finset.univ fun k => iprop(∃ κ : ℕ, cellInv ER (rd m) κ (kcell (c, k))))
          ∗ (bigSep Finset.univ fun k : Kd => atPos ER (kcell (c, k)) 0 ∅ 0)
          ∗ (bigSep Finset.univ fun k : Kd => reached ER (kcell (c, k)) 0) ∗ payToks c) : sProp 𝕄)
      ⊢ bigSep Finset.univ (G' m) := by
  simp only [bigSep_sep']
  rw [← bigSep_univ_prod (fun ck : Dev nD × Kd => iprop(∃ κ : ℕ, cellInv ER (rd (F := F) m) κ (kcell ck))),
    ← bigSep_univ_prod (fun ck : Dev nD × Kd => (reached ER (kcell ck) 0 : sProp 𝕄))]
  iintro ⟨HI, Hat, HR, Htok⟩
  ihave HK := (BI.bigSep_exists_pi Finset.univ (fun (ck : Dev nD × Kd) (κ : ℕ) => (cellInv ER (rd (F := F) m) κ (kcell ck) : sProp 𝕄))) $$ HI
  icases HK with ⟨%K, HI⟩
  iapply (each_with (S := Finset.univ) (R := records m K) (Φ := fun c : Dev nD => iprop((bigSep Finset.univ fun k : Kd => atPos ER (kcell (c, k)) 0 ∅ 0) ∗ payToks c))
    (Ψ := G' m) (fun c _ => show _ ⊢ iprop(∃ K, ghost m c K) from by
      unfold ghost
      iintro ⟨HR, Hp, Ht⟩
      iexists K
      isplitl [HR]; · iexact HR
      isplitl [Hp] <;> iassumption))
  rw [bigSep_sep']
  isplitl [HI HR]
  · unfold records; rw [bigSep_sep']
    isplitl [HI] <;> iassumption
  isplitl [Hat] <;> iassumption

/-- The global step: every device's counters at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  BIBase.Entails.trans (BIBase.Entails.trans (bigSep_mono fun c _ => open_cells m c) (bigSep_fupd _ _)) (BI.fupd_mono (gather_all m))

/-! ## The launch credit -/

section Credit
variable (c : Dev nD)

/-- Whose peer at an offset a device is: the one at the offset back. -/
theorem peer_iff (d : Dev nD) (o : Fin 15) : Iff (peer d (o.val + 1) = c) (d = peer c ((14 - o.val) + 1)) := by
  constructor
  · rintro rfl; exact (peer_back d o).symm
  · rintro rfl
    refine Fin.ext ?_
    rw [peer_val, peer_val]; have := dev_lt c; have := o.isLt; omega

/-- Exactly one device pays the entry at a given offset to `c`, -/
theorem bar_owed (d : Dev nD) (o : Fin 15) :
    (tallyAt (barCell (peer d (o.val + 1))) () 1 : CellTallies nD τ sig Unit) (barCell c) () = if d = peer c ((14 - o.val) + 1) then 1 else 0 := by
  rw [tallyAt_apply]
  refine if_congr ?_ rfl rfl
  rw [← peer_iff]
  constructor
  · rintro ⟨h, -⟩; exact (congrArg (fun g : GSem nD τ sig => g.1.1) h).symm
  · rintro rfl; exact ⟨rfl, rfl⟩

/-- and exactly one the arrival from `p`. -/
theorem rcv_owed (d p : Dev nD) (o : Fin 15) (hp : p = peer c ((14 - o.val) + 1)) :
    (tallyAt (rcvCell (peer d (o.val + 1)) d) () N : CellTallies nD τ sig Unit) (rcvCell c p) () = if d = p then N else 0 := by
  rw [tallyAt_apply]
  refine if_congr ?_ rfl rfl
  constructor
  · rintro ⟨h, -⟩
    rw [hp]; exact (peer_iff c d o).mp (congrArg (fun g : GSem nD τ sig => g.1.1) h).symm
  · intro h
    have h1 : peer d (o.val + 1) = c := (peer_iff c d o).mpr (h.trans hp)
    rw [h1, h]; exact ⟨rfl, rfl⟩

/-- The credit for the entries at a device, -/
theorem bar_credit : (Pipeline.launchCred (fun d => OB d 0) c : sProp 𝕄) ⊢ cred (tallyAt (barCell c) () 15) := by
  have h : tallyOn (barCell c) (launchCredit (Pipeline.owing fun d => OB d 0) 0 (barCell c)) = (tallyAt (barCell c) () 15 : CellTallies nD τ sig Unit) := by
    unfold tallyAt; refine congrArg _ (Finsupp.ext fun u => ?_); cases u
    rw [Pipeline.launchCredit_owing, Finsupp.single_eq_same]
    unfold OB
    rw [above_zero]
    have e (d : Dev nD) : (∑ o : Fin 15, tallyAt (barCell (peer d (o.val + 1))) () 1 : CellTallies nD τ sig Unit) (barCell c) ()
        = ∑ o : Fin 15, if d = peer c ((14 - o.val) + 1) then 1 else 0 := by
      rw [Finset.sum_apply, Finsupp.finsetSum_apply]; exact Finset.sum_congr rfl fun o _ => bar_owed c d o
    rw [Finset.sum_congr rfl fun d _ => e d, Finset.sum_comm,
      Finset.sum_congr rfl fun o _ => (Finset.sum_ite_eq' Finset.univ (peer c ((14 - o.val) + 1)) fun _ => 1).trans (if_pos (Finset.mem_univ _))]
    rfl
  rw [← h]
  exact Pipeline.launchCred_elim _ c (.reg barS)

/-- and for one arrival there. -/
theorem rcv_credit (o : Fin 15) :
    (Pipeline.launchCred (fun d => tallyAt (rcvCell (peer d (o.val + 1)) d) () N) c : sProp 𝕄) ⊢ cred (tallyAt (rcvCell c (peer c ((14 - o.val) + 1))) () N) := by
  have h : tallyOn (rcvCell c (peer c ((14 - o.val) + 1))) (launchCredit (Pipeline.owing fun d => tallyAt (rcvCell (peer d (o.val + 1)) d) () N) 0 (rcvCell c (peer c ((14 - o.val) + 1))))
      = (tallyAt (rcvCell c (peer c ((14 - o.val) + 1))) () N : CellTallies nD τ sig Unit) := by
    conv_rhs => unfold tallyAt
    refine congrArg _ (Finsupp.ext fun u => ?_); cases u
    rw [Pipeline.launchCredit_owing, Finsupp.single_eq_same, Finset.sum_congr rfl fun d _ => rcv_owed c d _ o rfl,
      Finset.sum_ite_eq' Finset.univ _ fun _ => N, if_pos (Finset.mem_univ _)]
  rw [← h]
  exact Pipeline.launchCred_elim _ c (.dma (rcvS (peer c ((14 - o.val) + 1))))

/-- The credit each device launches with: its fifteen entries, its fifteen arrivals. -/
theorem credits : (Pipeline.launchCred O₀ c : sProp 𝕄) ⊢ iprop(cred (tallyAt (barCell c) () 15)
    ∗ bigSep Finset.univ (fun o : Fin 15 => cred (tallyAt (rcvCell c (peer c (o.val + 1))) () N))) := by
  have e : (Pipeline.launchCred O₀ c : sProp 𝕄) = iprop(bigSep Finset.univ (fun o : Fin 15 => Pipeline.launchCred (fun d => tallyAt (rcvCell (peer d (o.val + 1)) d) () N) c)
      ∗ Pipeline.launchCred (fun d => OB d 0) c) := by
    rw [← Pipeline.launchCred_sum, show (O₀ : Dev nD → CellTallies nD τ sig Unit) = fun d => (∑ o : Fin 15, tallyAt (rcvCell (peer d (o.val + 1)) d) () N) + OB d 0 from
      funext fun d => by unfold O₀ OR; rw [above_zero]]
    exact Pipeline.launchCred_add _ _ c
  rw [e]
  iintro ⟨HR, HB⟩
  isplitl [HB]; · iapply (bar_credit c); iexact HB
  ihave H := (show bigSep Finset.univ (fun o : Fin 15 => (Pipeline.launchCred (fun d => tallyAt (rcvCell (peer d (o.val + 1)) d) () N) c : sProp 𝕄))
      ⊢ bigSep Finset.univ (fun o : Fin 15 => cred (tallyAt (rcvCell c (peer c ((14 - o.val) + 1))) () N)) from bigSep_mono fun o _ => rcv_credit (F := F) c o) $$ HR
  rw [bigSep_univ_equiv Fin.revPerm (fun o : Fin 15 => (cred (tallyAt (rcvCell c (peer c (o.val + 1))) () N) : sProp 𝕄))]
  have hr : (fun o : Fin 15 => (cred (tallyAt (rcvCell c (peer c ((Fin.revPerm o).val + 1))) () N) : sProp 𝕄))
      = fun o : Fin 15 => cred (tallyAt (rcvCell c (peer c ((14 - o.val) + 1))) () N) := funext fun o => by
    rw [Fin.revPerm_apply, Fin.val_rev, show 15 - (o.val + 1) = 14 - o.val by omega]
  rw [hr]
  iexact H

end Credit

/-! ## The run -/

section Side
variable (c : Dev nD)

/-- What a device starts from, made from what the launch deals. -/
theorem start_intro :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none]
  iintro ⟨Hw, Hlev, Hcr, -, HG⟩
  ihave Hw' := (Entails.of_eq (unscopedRest0_eq c (fun b => m ((c : Thread nD τ).loc b)))) $$ Hw
  ihave Hc := (credits (F := F) c) $$ Hcr
  icases Hc with ⟨H1, HN⟩
  imodintro
  unfold start G' wbuf
  isplitl
  · isplitl [HG]; · iexact HG
    isplitl [H1]; · iexact H1
    isplitl [HN]; · iexact HN
    isplitl [Hlev]; · iexact Hlev
    iexact Hw'
  · iempintro

/-- At entry the body's needs are met; -/
theorem enter :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scr
  iintro ⟨Hs, -, Hr⟩
  isplitl [Hs] <;> iassumption

/-- What the device has after: the barrier's counter at zero and its `w`. -/
def Yc : sProp 𝕄 := iprop(unscopedSems0 c ∗ (((c : Thread nD τ).loc main_arg1) ↦{fullShare} wbuf m c))

/-- at the end the counters and the buffers are given back. -/
theorem exit :
    (dats m ρ 0 c).Φ (Fin.last cfg0.N) ⊢ iprop(Yc m c ∗ Pipeline.ownSems0 osem c ∗ Pipeline.scopedRest cfg0.spec c) := by
  rw [show (dats m ρ 0 c).Φ (Fin.last cfg0.N) = Φ₁ m c from rfl, scopedRest0_eq, own_eq]
  unfold Φ₁ Yc
  rw [unscoped_eq]
  iintro ⟨Hw, H0, H1, H2, HB, HK⟩
  isplitl [HB Hw]
  · isplitl [HB] <;> iassumption
  isplitl [HK]; · iexact HK
  isplitl [H0]; · iexact H0
  isplitl [H1] <;> iassumption

/-- The pipeline's own waits come before everything owed. -/
theorem waits : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> decide) _ (by
      rcases t with ⟨_ | _, ht⟩
      · exact fun g u h => O₀_pos h
      · exact fun g u h => absurd h (Nat.lt_irrefl 0))

/-- After the run device `c`'s counters are zero and its `w` is as it was. -/
def Kept (s : MemSt nD τ sig (Elt F)) : Prop :=
  (∀ sm : SemLoc sig, sm.isScoped .tc = false → s.sem ((c.tc : Thread nD τ), sm) = 0)
    ∧ s.mem ((c : Thread nD τ).loc main_arg1) = m ((c : Thread nD τ).loc main_arg1)

/-- At the end the memory holds `w` as it was. -/
theorem read_kept (s' : Phys nD τ sig (Elt F)) :
    iprop(Yc m c ∗ emp ∗ SI s') ⊢ |={Set.univ}=> (iprop(⌜Kept m c s'.mem⌝ ∗ SI s') : sProp 𝕄) := by
  unfold Yc
  iintro ⟨⟨Hu, Hw⟩, -, HSI⟩
  ihave %hw := (SI_pointsTo_agree (st := s') (ℓ := (c : Thread nD τ).loc main_arg1) (I := Finset.univ) (q := fullShare) (f := wbuf m c)) $$ [HSI Hw]
  · isplitl [HSI] <;> iassumption
  imod (Pipeline.unscopedSems0_read (X := unscopedSems0 c) (c := c) fupd_intro s') $$ [Hu HSI] with ⟨%hs, HSI⟩
  · isplitl [Hu] <;> iassumption
  imodintro
  isplitr
  · ipureintro; exact ⟨hs, funext fun i => hw i (Finset.mem_univ i)⟩
  iexact HSI

end Side

/-- The arrays of device `c` at the end, -/
def finalA (c : Dev nD) (w : Fin cfg0.W) : Buf (Elt F) ((cfg0.win w).arr.view.loc (c : Thread nD τ)) := (dats m ρ 0 c).arrAt w cfg0.N
/-- and what the run leaves. -/
def Left : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg1) = m ((c : Thread nD τ).loc main_arg1)

set_option maxRecDepth 8000 in
/-- From any memory with zero counters every weakly fair execution ends, leaving the arrays as computed, `w` as it was
    and every counter at zero. -/
theorem run_all : θ_run defs (onTc (τ := τ) (main (F := F))) (s₀ m ρ) (fun r => Left m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_full m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (deal m) $$ HX with HG
      imodintro
      isplitl [HP] <;> iassumption)
    (hglob := glob m)
    (hA := fun _ _ => rfl) (hpf := fun _ k => k.elim0)
    (X := start m) (Y := Yc m) (Z := fun _ => iprop(emp))
    (hX := start_intro m ρ) (hin := enter m ρ) (hout := exit m ρ)
    (QY := Kept m) (hY := read_kept m)
    (hQ := fun _ h hs => ⟨fun c => ⟨fun w => (h c).1 w, (h c).2.2.2⟩, sem_eq_zero hs fun c => (h c).2.2.1⟩)

/-! ## The arrays at the end -/

section Arrays
variable (c : Dev nD)

/-- The operands end as they began. -/
theorem final_in (w : Fin 4) (hw : (cfg0.win w).isOut = false) : finalA m ρ c w = m ((cfg0.win w).arr.view.loc (c : Thread nD τ)) :=
  (dats m ρ 0 c).arrAt_in w hw _

/-- The result's array ends with the result. -/
theorem final_out : (win0_3.blk t0_0).view.read (Elt F) (finalA m ρ c (3 : Fin 4)) = outC m c := by
  unfold finalA
  rw [show cfg0.N = (t0_0 : Fin cfg0.N).val + 1 from rfl, (dats m ρ 0 c).arrAt_succ (3 : Fin 4) t0_0]
  rw [show (cfg0.win (3 : Fin 4)).flush t0_0 = true from by decide, if_pos rfl]
  exact View.read_write_univ _ _

end Arrays

end Cert.KernelIdealRun

end
-- ==== Proof.IVal.lean ====
module

public import proofs.«01_k».proof.Proof.IRun
public import proofs.«01_k».proof.Proof.Gen.ReferenceIdeal.Run
public import Idealize.ShloMosaic.Lib.MatmulPlain
public import Idealize.ShloMosaic.Lib.StackMember
public import Idealize.ShloMosaic.Lib.ValueIdx
public import Idealize.ShloMosaic.Lib.Layout
public import Idealize.ShloMosaic.Lib.Pipeline.Value
public import Idealize.ShloMosaic.Lib.Quiescent

@[expose] public section

noncomputable section

namespace Cert.KernelIdealRun

open Cert.KernelIdeal Cert.KernelIdeal.Gen
open Idealize.ShloMosaic Idealize.ShloMosaic.ValueIdx
open Idealize.ShloMosaic.TcCoe
open Idealize.SL.Sem

/-! # The result over the ideal values -/

section Value

/-- The reference's result from its four arguments. -/
def refOut (X : FVec Ideal Cert.ReferenceIdeal.S4096x4096 .f32) (W : FVec Ideal Cert.ReferenceIdeal.S4096x8192 .f32)
    (p q : FVec Ideal Cert.ReferenceIdeal.S1 .f32) : FVec Ideal Cert.ReferenceIdeal.S4096x8192 .f32 :=
  mulf (Host.dotGeneral Cert.ReferenceIdeal.dot_S4096x4096_S4096x8192_S4096x8192_1_0_0_1_n_n none X W)
    (broadcastInDim Cert.ReferenceIdeal.S4096x8192 ![0, 1] Cert.ReferenceIdeal.Facts₀.bcast_S1x1_S4096x8192_0_1
      (broadcastInDim Cert.ReferenceIdeal.S1x1 ![1] Cert.ReferenceIdeal.Facts₀.bcast_S1_S1x1_1 (mulf p q)))

/-- An element of the reference's result: a row of `x` times a column of `w`, times the product of the scales. -/
theorem refOut_apply (X : FVec Ideal Cert.ReferenceIdeal.S4096x4096 .f32) (W : FVec Ideal Cert.ReferenceIdeal.S4096x8192 .f32)
    (p q : FVec Ideal Cert.ReferenceIdeal.S1 .f32) (r : Fin 4096) (l : Fin 8192) :
    refOut X W p q (ix2 r l) = (∑ k : Fin 4096, X (ix2 r k) * W (ix2 k l)) * (p (ix1 0) * q (ix1 0)) := by
  unfold refOut
  rw [mulf_apply]
  congr 1
  · rw [show Cert.ReferenceIdeal.dot_S4096x4096_S4096x8192_S4096x8192_1_0_0_1_n_n = DotDims.plain 4096 4096 8192 from rfl]
    exact StackMember.dotGeneral_plain_apply none X W r l
  · rw [broadcastInDim_apply _ _ _ _ (ix2 0 0) (fun a => by fin_cases a <;> rfl),
      broadcastInDim_apply _ _ _ _ (ix1 0) (fun a => by fin_cases a <;> rfl)]
    rfl

/-- An element of a chunk. -/
theorem chk_apply (sc : Ideal .f32) (xb : FVec Ideal S256x4096 .bf16) (w : FVec Ideal S4096x512 .f32) (r : Fin 256) (l : Fin 512) :
    chk sc xb w (ix2 r l) = (∑ k : Fin 4096, xb (ix2 r k) * w (ix2 k l)) * sc := by
  unfold chk
  rw [mulf_apply]
  congr 1
  rw [show dot_S256x4096_S4096x512_S256x512_1_0_0_1_n_n = DotDims.plain 256 4096 512 from rfl]
  show FloatOps.matmul (DotDims.plain 256 4096 512) none xb _ _ (ix2 r l) = _
  rw [Ideal.matmul_plain_apply]
  show Ideal.ofBits .f32 0x00000000#32 + _ = _
  rw [Ideal.ofBits_zero_f32, zero_add]
  rfl

variable (m : (ℓ : Loc nD τ sig) → Buf (Elt Ideal) ℓ)

/-- The staged operands are the arguments. -/
theorem xstg_eq (c : Dev nD) : xstg m c = m ((c : Thread nD τ).loc main_arg0) := by
  have hz : (fun a => (win0_0.index t0_0) a * main_arg0.ty.shape.size a) = fun _ => 0 := funext fun a => by fin_cases a <;> decide
  exact Memref.read_access_unit_zero (Elt Ideal) main_arg0 hz (fun a => by fin_cases a <;> decide) _
/-- The first scale, -/
theorem pstg_eq (c : Dev nD) : pstg m c = m ((c : Thread nD τ).loc main_arg2) := by
  have hz : (fun a => (win0_1.index t0_0) a * main_arg2.ty.shape.size a) = fun _ => 0 := funext fun a => by fin_cases a <;> decide
  exact Memref.read_access_unit_zero (Elt Ideal) main_arg2 hz (fun a => by fin_cases a <;> decide) _
/-- and the second. -/
theorem qstg_eq (c : Dev nD) : qstg m c = m ((c : Thread nD τ).loc main_arg3) := by
  have hz : (fun a => (win0_2.index t0_0) a * main_arg3.ty.shape.size a) = fun _ => 0 := funext fun a => by fin_cases a <;> decide
  exact Memref.read_access_unit_zero (Elt Ideal) main_arg3 hz (fun a => by fin_cases a <;> decide) _

/-- Over the ideal values the rounded rows are the rows. -/
theorem xbv_apply (c : Dev nD) (r : Fin 256) (k : Fin 4096) : xbv m c (ix2 r k) = m ((c : Thread nD τ).loc main_arg0) (ix2 r k) := by
  unfold xbv k0_pay2
  rw [xstg_eq]
  simp only [shapeCast_self]
  rfl

/-- An element of a device's columns of `w`. -/
theorem wblk_apply (c b : Dev nD) (k : Fin 4096) (l : Fin 512) (h : 512 * b.val + l.val < 8192) :
    wblk m c b (ix2 k l) = m ((c : Thread nD τ).loc main_arg1) (ix2 k ⟨512 * b.val + l.val, h⟩) := by
  show m ((c : Thread nD τ).loc main_arg1) ((wCol b).view.emb (ix2 k l)) = _
  refine congrArg _ (funext fun a => Fin.ext ?_)
  match a with
  | ⟨0, _⟩ => show 0 + 1 * k.val = k.val; omega
  | ⟨1, _⟩ => show 512 * b.val + 1 * l.val = 512 * b.val + l.val; omega

/-- The scale is the product of the two. -/
theorem sval_eq (c : Dev nD) : sval m c = (show Ideal .f32 from m ((c : Thread nD τ).loc main_arg2) (ix1 0)) * (show Ideal .f32 from m ((c : Thread nD τ).loc main_arg3) (ix1 0)) := by
  unfold sval k0_pay1
  rw [pstg_eq, qstg_eq]
  have e : (Shape.Idx.first (s := S1) (by decide) : S1.Idx) = ix1 0 := funext fun a => by fin_cases a; rfl
  rw [e]; rfl

/-- When every device holds its rows of `x` and the whole of the rest, a device's result is its columns of the reference's. -/
theorem outC_eq (X : FVec Ideal Cert.ReferenceIdeal.S4096x4096 .f32) (W : FVec Ideal Cert.ReferenceIdeal.S4096x8192 .f32)
    (p q : FVec Ideal Cert.ReferenceIdeal.S1 .f32)
    (hX : ∀ c : Dev nD, m ((c : Thread nD τ).loc main_arg0) = Layout.block ⟨2, ![256, 4096]⟩ ⟨2, ![4096, 4096]⟩ 0 16 c X)
    (hW : ∀ c : Dev nD, m ((c : Thread nD τ).loc main_arg1) = W)
    (hp : ∀ c : Dev nD, m ((c : Thread nD τ).loc main_arg2) = p)
    (hq : ∀ c : Dev nD, m ((c : Thread nD τ).loc main_arg3) = q) (c : Dev nD) :
    outC m c = Layout.block ⟨2, ![4096, 512]⟩ ⟨2, ![4096, 8192]⟩ 1 16 c (refOut X W p q) := by
  funext i
  obtain ⟨r, l, rfl⟩ : ∃ (r : Fin 4096) (l : Fin 512), i = ix2 r l := ⟨i 0, i 1, eq_ix2 i⟩
  have hc := c.isLt
  have hl : 512 * c.val + l.val < 8192 := by have := l.isLt; have : c.val < 16 := hc; omega
  have hr : r.val % 256 < 256 := Nat.mod_lt _ (by decide)
  have hi : inBand (ix2 r l) = ix2 ⟨r.val % 256, hr⟩ l := funext fun a => by
    match a with
    | ⟨0, _⟩ => rfl
    | ⟨1, _⟩ => rfl
  have hR : (Layout.block ⟨2, ![4096, 512]⟩ ⟨2, ![4096, 8192]⟩ 1 16 c (refOut X W p q)) (ix2 r l)
      = refOut X W p q (ix2 r ⟨512 * c.val + l.val, hl⟩) := by
    rw [Layout.block_apply]
    refine congrArg _ (funext fun a => Fin.ext ?_)
    match a with
    | ⟨0, _⟩ => rfl
    | ⟨1, _⟩ => show c.val * 512 + l.val = 512 * c.val + l.val; omega
  rw [hR, refOut_apply]
  show chunkV m ⟨r.val / 256, row_dev_lt (ix2 r l)⟩ c (inBand (ix2 r l)) = _
  unfold chunkV
  rw [hi, chk_apply, sval_eq, hp, hq]
  congr 1
  refine Finset.sum_congr rfl fun k _ => ?_
  rw [xbv_apply, wblk_apply m _ c k l hl, hX, hW, Layout.block_apply]
  congr 1
  refine congrArg X (funext fun a => Fin.ext ?_)
  match a with
  | ⟨0, _⟩ => show r.val / 256 * 256 + r.val % 256 = r.val; omega
  | ⟨1, _⟩ => rfl

/-- The whole array of results, as the launch leaves it. -/
theorem final_res (ρ : Dev nD → PrngReg) (c : Dev nD) : finalA m ρ c (3 : Fin 4) = outC m c := by
  have hz : (fun a => (win0_3.index t0_0) a * main_v1.ty.shape.size a) = fun _ => 0 := funext fun a => by fin_cases a <;> decide
  have h := final_out m ρ c
  rw [← h]
  exact (Memref.read_access_unit_zero (Elt Ideal) main_v1 hz (fun a => by fin_cases a <;> decide) _).symm

end Value

end Cert.KernelIdealRun

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KRun
public import proofs.«01_k».proof.Proof.IVal
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The compiled program runs, keeps its arguments and leaves no count: its run, the values dropped. -/
theorem frame_kernel : Cert.quiescent_Kernel := by
  intro m ρ _
  exact (θ_run Cert.Kernel.defs _ _).mono (fun r h =>
      ⟨fun c => ⟨((h.1 c).1 (0 : Fin 4)).trans (Cert.KernelRun.final_in m ρ c 0 rfl), (h.1 c).2,
        ((h.1 c).1 (1 : Fin 4)).trans (Cert.KernelRun.final_in m ρ c 1 rfl),
        ((h.1 c).1 (2 : Fin 4)).trans (Cert.KernelRun.final_in m ρ c 2 rfl)⟩, h.2⟩)
    (Cert.KernelRun.run_all (F := Bits) m ρ)

/-- The same of the program read over the ideal values. -/
theorem frame_ideal : Cert.quiescent_KernelIdeal := by
  intro m ρ _
  exact (θ_run Cert.KernelIdeal.defs _ _).mono (fun r h =>
      ⟨fun c => ⟨((h.1 c).1 (0 : Fin 4)).trans (Cert.KernelIdealRun.final_in m ρ c 0 rfl), (h.1 c).2,
        ((h.1 c).1 (1 : Fin 4)).trans (Cert.KernelIdealRun.final_in m ρ c 1 rfl),
        ((h.1 c).1 (2 : Fin 4)).trans (Cert.KernelIdealRun.final_in m ρ c 2 rfl)⟩, h.2⟩)
    (Cert.KernelIdealRun.run_all (F := Ideal) m ρ)

/-- The reference runs and keeps its arguments; it declares no semaphore. -/
theorem frame_ref : Cert.quiescent_ReferenceIdeal := by
  intro m ρ _
  exact (θ_run Cert.ReferenceIdeal.defs _ _).mono (fun r h =>
      ⟨fun c => (h c).2, Idealize.ShloMosaic.sem_eq_zero_of_no_sems (by decide) r.2⟩)
    (Cert.ReferenceIdeal.Value.run (F := Ideal) m ρ)

/-- Nothing was rewritten between the compiled program and the ideal one. -/
theorem preserved : Cert.preserves_Kernel_KernelIdeal := trivial

/-- Over the ideal values every device ends with its columns of the reference's product. -/
theorem same_value : Cert.algebraic_KernelIdeal_ReferenceIdeal := by
  intro m ρ m' ρ' _ hagree
  refine ⟨Cert.KernelIdealRun.refOut
    (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1))
    (m' (((0 : Dev Cert.ReferenceIdeal.nD).tc : Thread _ Cert.ReferenceIdeal.τ).loc Cert.ReferenceIdeal.main_arg2))
    (m' (((0 : Dev Cert.ReferenceIdeal.nD).tc : Thread _ Cert.ReferenceIdeal.τ).loc Cert.ReferenceIdeal.main_arg3)), ?_, ?_⟩
  · exact (θ_run Cert.KernelIdeal.defs _ _).mono (fun r h c =>
        ⟨((h.1 c).1 (3 : Fin 4)).trans ((Cert.KernelIdealRun.final_res m ρ c).trans
            (Cert.KernelIdealRun.outC_eq m _ _ _ _ (fun c => (hagree c).1) (fun c => (hagree c).2.1)
              (fun c => (hagree c).2.2.1) (fun c => (hagree c).2.2.2) c)),
          ((h.1 c).1 (0 : Fin 4)).trans (Cert.KernelIdealRun.final_in m ρ c 0 rfl), (h.1 c).2,
          ((h.1 c).1 (1 : Fin 4)).trans (Cert.KernelIdealRun.final_in m ρ c 1 rfl),
          ((h.1 c).1 (2 : Fin 4)).trans (Cert.KernelIdealRun.final_in m ρ c 2 rfl)⟩)
      (Cert.KernelIdealRun.run_all (F := Ideal) m ρ)
  · exact (θ_run Cert.ReferenceIdeal.defs _ _).mono (fun r h => h 0) (Cert.ReferenceIdeal.Value.run (F := Ideal) m' ρ')

/-- All five claims. -/
theorem claim : Cert.Claim :=
  ⟨Cert.Kernel.Gen.facts, Cert.KernelIdeal.Gen.facts, Cert.ReferenceIdeal.Gen.facts,
    frame_kernel, frame_ideal, frame_ref, preserved, same_value⟩

end Cert.Proof

end
